-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def preserves_Kernel_KernelIdeal : Prop :=
  IdealRules.named_const.Statement Cert.KernelIdeal.κ "gelu_ka" .f32 0xBDD2D3E8#32 (((-80338380498831 / 1125899906842624) * (Real.log 2)⁻¹ : ℝ) : EReal)
  ∧ IdealRules.named_const.Statement Cert.KernelIdeal.κ "gelu_k" .f32 0xC0135761#32 (((-6693141 / 4194304) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  IdealRules.named_const.Statement Cert.Kernel2Ideal.κ "sb_scale" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v28_0)) (v1 : (c : Dev Cert.Kernel2Ideal.nD) → Buf (Elt Ideal) ((c.tc : Thread Cert.Kernel2Ideal.nD Cert.Kernel2Ideal.τ).loc Cert.Kernel2Ideal.main_v28_1)) (v2 : (c : Dev Cert.Kernel2Ideal.nD) → Buf (Elt Ideal) ((c.tc : Thread Cert.Kernel2Ideal.nD Cert.Kernel2Ideal.τ).loc Cert.Kernel2Ideal.main_v28_2)) (v3 : (c : Dev Cert.Kernel2Ideal.nD) → Buf (Elt Ideal) ((c.tc : Thread Cert.Kernel2Ideal.nD Cert.Kernel2Ideal.τ).loc Cert.Kernel2Ideal.main_v28_3)) (v4 : (c : Dev Cert.Kernel2Ideal.nD) → Buf (Elt Ideal) ((c.tc : Thread Cert.Kernel2Ideal.nD Cert.Kernel2Ideal.τ).loc Cert.Kernel2Ideal.main_v28_4)) (v5 : (c : Dev Cert.Kernel2Ideal.nD) → Buf (Elt Ideal) ((c.tc : Thread Cert.Kernel2Ideal.nD Cert.Kernel2Ideal.τ).loc Cert.Kernel2Ideal.main_v28_5)) (v6 : (c : Dev Cert.Kernel2Ideal.nD) → Buf (Elt Ideal) ((c.tc : Thread Cert.Kernel2Ideal.nD Cert.Kernel2Ideal.τ).loc Cert.Kernel2Ideal.main_v28_6)) (v7 : (c : Dev Cert.Kernel2Ideal.nD) → Buf (Elt Ideal) ((c.tc : Thread Cert.Kernel2Ideal.nD Cert.Kernel2Ideal.τ).loc Cert.Kernel2Ideal.main_v28_7)) (v8 : (c : Dev Cert.Kernel2Ideal.nD) → Buf (Elt Ideal) ((c.tc : Thread Cert.Kernel2Ideal.nD Cert.Kernel2Ideal.τ).loc Cert.Kernel2Ideal.main_v28_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28_0) = v0 c
          ∧ r.2.mem ((c.tc : Thread Cert.Kernel2Ideal.nD Cert.Kernel2Ideal.τ).loc Cert.Kernel2Ideal.main_v28_1) = v1 c
          ∧ r.2.mem ((c.tc : Thread Cert.Kernel2Ideal.nD Cert.Kernel2Ideal.τ).loc Cert.Kernel2Ideal.main_v28_2) = v2 c
          ∧ r.2.mem ((c.tc : Thread Cert.Kernel2Ideal.nD Cert.Kernel2Ideal.τ).loc Cert.Kernel2Ideal.main_v28_3) = v3 c
          ∧ r.2.mem ((c.tc : Thread Cert.Kernel2Ideal.nD Cert.Kernel2Ideal.τ).loc Cert.Kernel2Ideal.main_v28_4) = v4 c
          ∧ r.2.mem ((c.tc : Thread Cert.Kernel2Ideal.nD Cert.Kernel2Ideal.τ).loc Cert.Kernel2Ideal.main_v28_5) = v5 c
          ∧ r.2.mem ((c.tc : Thread Cert.Kernel2Ideal.nD Cert.Kernel2Ideal.τ).loc Cert.Kernel2Ideal.main_v28_6) = v6 c
          ∧ r.2.mem ((c.tc : Thread Cert.Kernel2Ideal.nD Cert.Kernel2Ideal.τ).loc Cert.Kernel2Ideal.main_v28_7) = v7 c
          ∧ r.2.mem ((c.tc : Thread Cert.Kernel2Ideal.nD Cert.Kernel2Ideal.τ).loc Cert.Kernel2Ideal.main_v28_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v218) = v0 c
          ∧ r.2.mem ((c.tc : Thread Cert.Reference2Ideal.nD Cert.Reference2Ideal.τ).loc Cert.Reference2Ideal.main_v220) = v1 c
          ∧ r.2.mem ((c.tc : Thread Cert.Reference2Ideal.nD Cert.Reference2Ideal.τ).loc Cert.Reference2Ideal.main_v222) = v2 c
          ∧ r.2.mem ((c.tc : Thread Cert.Reference2Ideal.nD Cert.Reference2Ideal.τ).loc Cert.Reference2Ideal.main_v224) = v3 c
          ∧ r.2.mem ((c.tc : Thread Cert.Reference2Ideal.nD Cert.Reference2Ideal.τ).loc Cert.Reference2Ideal.main_v225) = v4 c
          ∧ r.2.mem ((c.tc : Thread Cert.Reference2Ideal.nD Cert.Reference2Ideal.τ).loc Cert.Reference2Ideal.main_v228) = v5 c
          ∧ r.2.mem ((c.tc : Thread Cert.Reference2Ideal.nD Cert.Reference2Ideal.τ).loc Cert.Reference2Ideal.main_v231) = v6 c
          ∧ r.2.mem ((c.tc : Thread Cert.Reference2Ideal.nD Cert.Reference2Ideal.τ).loc Cert.Reference2Ideal.main_v234) = v7 c
          ∧ r.2.mem ((c.tc : Thread Cert.Reference2Ideal.nD Cert.Reference2Ideal.τ).loc Cert.Reference2Ideal.main_v236) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  IdealRules.named_const.Statement Cert.Kernel3Ideal.κ "log2e" .f32 0x3FB8AA3B#32 (((Real.log 2)⁻¹ : ℝ) : EReal)

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
-- ==== Kernel.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S2x256 : Shape := ⟨2, ![2, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S16384x4x64 : Shape := ⟨3, ![16384, 4, 64]⟩
abbrev S4x16384x64 : Shape := ⟨3, ![4, 16384, 64]⟩
abbrev S2x1x256 : Shape := ⟨3, ![2, 1, 256]⟩
abbrev S2x1x1024 : Shape := ⟨3, ![2, 1, 1024]⟩
abbrev S2x1x5632 : Shape := ⟨3, ![2, 1, 5632]⟩
abbrev S16384x1024 : Shape := ⟨2, ![16384, 1024]⟩
abbrev S16384x512 : Shape := ⟨2, ![16384, 512]⟩
abbrev S16384x256 : Shape := ⟨2, ![16384, 256]⟩
abbrev S512x1024 : Shape := ⟨2, ![512, 1024]⟩
abbrev S512x512 : Shape := ⟨2, ![512, 512]⟩
abbrev S4x512x64 : Shape := ⟨3, ![4, 512, 64]⟩
abbrev S512x256 : Shape := ⟨2, ![512, 256]⟩
abbrev S1x1x256 : Shape := ⟨3, ![1, 1, 256]⟩
abbrev S1x1024x1024 : Shape := ⟨3, ![1, 1024, 1024]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S11x512x256 : Shape := ⟨3, ![11, 512, 256]⟩
abbrev S4x520x256 : Shape := ⟨3, ![4, 520, 256]⟩
abbrev S22x8x256 : Shape := ⟨3, ![22, 8, 256]⟩
abbrev S1x512x64 : Shape := ⟨3, ![1, 512, 64]⟩
abbrev S512x64 : Shape := ⟨2, ![512, 64]⟩
abbrev S1x256 : Shape := ⟨2, ![1, 256]⟩
abbrev S512 : Shape := ⟨1, ![512]⟩
abbrev S512x1 : Shape := ⟨2, ![512, 1]⟩
abbrev S1024x1024 : Shape := ⟨2, ![1024, 1024]⟩
abbrev S1x1024 : Shape := ⟨2, ![1, 1024]⟩
abbrev S1x1024x256 : Shape := ⟨3, ![1, 1024, 256]⟩
abbrev S1024x256 : Shape := ⟨2, ![1024, 256]⟩
abbrev S1x8x256 : Shape := ⟨3, ![1, 8, 256]⟩
abbrev S8x256 : Shape := ⟨2, ![8, 256]⟩
abbrev S1x520x256 : Shape := ⟨3, ![1, 520, 256]⟩
abbrev S520x256 : Shape := ⟨2, ![520, 256]⟩
abbrev S1x3x256 : Shape := ⟨3, ![1, 3, 256]⟩
abbrev S3x256 : Shape := ⟨2, ![3, 256]⟩
abbrev S1x512x256 : Shape := ⟨3, ![1, 512, 256]⟩
abbrev S1x256x1024 : Shape := ⟨3, ![1, 256, 1024]⟩
abbrev S256x1024 : Shape := ⟨2, ![256, 1024]⟩

abbrev nBuf : Space → Nat
  | .hbm => 30
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x512, .f32⟩
  | .hbm, ⟨2, _⟩ => ⟨S8x2048x256, .f32⟩
  | .hbm, ⟨3, _⟩ => ⟨S8x2048x256, .f32⟩
  | .hbm, ⟨4, _⟩ => ⟨S2x256, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x5632, .f32⟩
  | .hbm, ⟨9, _⟩ => ⟨S2x3x5632, .f32⟩
  | .hbm, ⟨10, _⟩ => ⟨S2x5632, .f32⟩
  | .hbm, ⟨11, _⟩ => ⟨S2x2816x1024, .f32⟩
  | .hbm, ⟨12, _⟩ => ⟨S2x1024, .f32⟩
  | .hbm, ⟨13, _⟩ => ⟨S16384x4x64, .f32⟩
  | .hbm, ⟨14, _⟩ => ⟨S4x16384x64, .f32⟩
  | .hbm, ⟨15, _⟩ => ⟨S4x16384x64, .bf16⟩
  | .hbm, ⟨16, _⟩ => ⟨S2x1x256, .f32⟩
  | .hbm, ⟨17, _⟩ => ⟨S2x1024x1024, .bf16⟩
  | .hbm, ⟨18, _⟩ => ⟨S2x1x1024, .f32⟩
  | .hbm, ⟨19, _⟩ => ⟨S2x1x1024, .f32⟩
  | .hbm, ⟨20, _⟩ => ⟨S2x1024x5632, .bf16⟩
  | .hbm, ⟨21, _⟩ => ⟨S2x1x5632, .f32⟩
  | .hbm, ⟨22, _⟩ => ⟨S2x2816x1024, .bf16⟩
  | .hbm, ⟨23, _⟩ => ⟨S2x1x1024, .f32⟩
  | .hbm, ⟨24, _⟩ => ⟨S16384x1024, .f32⟩
  | .hbm, ⟨25, _⟩ => ⟨S16384x512, .f32⟩
  | .hbm, ⟨26, _⟩ => ⟨S16384x512, .bf16⟩
  | .hbm, ⟨27, _⟩ => ⟨S16384x256, .f32⟩
  | .hbm, ⟨28, _⟩ => ⟨S16384x256, .bf16⟩
  | .hbm, ⟨29, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S4x512x64, .bf16⟩
  | .local _ .vmem, ⟨5, _⟩ => ⟨S4x512x64, .bf16⟩
  | .local _ .vmem, ⟨6, _⟩ => ⟨S512x256, .bf16⟩
  | .local _ .vmem, ⟨7, _⟩ => ⟨S512x256, .bf16⟩
  | .local _ .vmem, ⟨8, _⟩ => ⟨S1x1x256, .f32⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024x5632, .bf16⟩
  | .local _ .vmem, ⟨13, _⟩ => ⟨S1x3x5632, .f32⟩
  | .local _ .vmem, ⟨14, _⟩ => ⟨S1x1x5632, .f32⟩
  | .local _ .vmem, ⟨15, _⟩ => ⟨S1x2816x1024, .bf16⟩
  | .local _ .vmem, ⟨16, _⟩ => ⟨S1x1x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .bf16⟩
  | .local _ .vmem, ⟨20, _⟩ => ⟨S11x512x256, .bf16⟩
  | .local _ .vmem, ⟨21, _⟩ => ⟨S4x520x256, .f32⟩
  | .local _ .vmem, ⟨22, _⟩ => ⟨S22x8x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "gelu_k" => some (((-6693141 / 4194304) * (Real.log 2)⁻¹ : ℝ) : EReal)
  | "gelu_ka" => some (((-80338380498831 / 1125899906842624) * (Real.log 2)⁻¹ : ℝ) : EReal)
  | _ => none
-- ==== ReferenceIdeal.lean ====
abbrev S8x2048x1024 : Shape := ⟨3, ![8, 2048, 1024]⟩
abbrev S8x2048x512 : Shape := ⟨3, ![8, 2048, 512]⟩
abbrev S8x2048x256 : Shape := ⟨3, ![8, 2048, 256]⟩
abbrev S2x256 : Shape := ⟨2, ![2, 256]⟩
abbrev S2x1024x1024 : Shape := ⟨3, ![2, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S1x256 : Shape := ⟨2, ![1, 256]⟩
abbrev S256 : Shape := ⟨1, ![256]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S1x1x1024 : Shape := ⟨3, ![1, 1, 1024]⟩
abbrev S1x1024x5632 : Shape := ⟨3, ![1, 1024, 5632]⟩
abbrev S1024x5632 : Shape := ⟨2, ![1024, 5632]⟩
abbrev S8x2048x5632 : Shape := ⟨3, ![8, 2048, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S8x2050x5632 : Shape := ⟨3, ![8, 2050, 5632]⟩
abbrev S1x1x5632 : Shape := ⟨3, ![1, 1, 5632]⟩
abbrev S8x2048x2816 : Shape := ⟨3, ![8, 2048, 2816]⟩
abbrev S1x2816x1024 : Shape := ⟨3, ![1, 2816, 1024]⟩
abbrev S2816x1024 : Shape := ⟨2, ![2816, 1024]⟩
abbrev S16384x1024 : Shape := ⟨2, ![16384, 1024]⟩

abbrev nBuf : Space → Nat
  | .hbm => 148
  | .vmem => 0
  | .smem => 0
  | _ => 0

abbrev hbmTy0_0 (i : Nat) : BufTy := match i % 128 with
  | 0 => ⟨S8x2048x1024, .f32⟩
  | 1 => ⟨S8x2048x512, .f32⟩
  | 2 => ⟨S8x2048x256, .f32⟩
  | 3 => ⟨S8x2048x256, .f32⟩
  | 4 => ⟨S2x256, .f32⟩
  | 5 => ⟨S2x1024x1024, .f32⟩
  | 6 => ⟨S2x1024, .f32⟩
  | 7 => ⟨S2x1024, .f32⟩
  | 8 => ⟨S2x1024x5632, .f32⟩
  | 9 => ⟨S2x3x5632, .f32⟩
  | 10 => ⟨S2x5632, .f32⟩
  | 11 => ⟨S2x2816x1024, .f32⟩
  | 12 => ⟨S2x1024, .f32⟩
  | 13 => ⟨S1x256, .f32⟩
  | 14 => ⟨S256, .f32⟩
  | 15 => ⟨S8x2048x256, .f32⟩
  | 16 => ⟨S_, .f32⟩
  | 17 => ⟨S8x2048, .f32⟩
  | 18 => ⟨S8x2048x1, .f32⟩
  | 19 => ⟨S_, .f32⟩
  | 20 => ⟨S8x2048x1, .f32⟩
  | 21 => ⟨S8x2048x1, .f32⟩
  | 22 => ⟨S_, .f32⟩
  | 23 => ⟨S8x2048x1, .f32⟩
  | 24 => ⟨S8x2048x1, .f32⟩
  | 25 => ⟨S8x2048x1, .f32⟩
  | 26 => ⟨S8x2048x256, .f32⟩
  | 27 => ⟨S8x2048x256, .f32⟩
  | 28 => ⟨S1x1x256, .f32⟩
  | 29 => ⟨S8x2048x256, .f32⟩
  | 30 => ⟨S8x2048x256, .f32⟩
  | 31 => ⟨S8x2048x1024, .f32⟩
  | 32 => ⟨S1x1024x1024, .f32⟩
  | 33 => ⟨S1024x1024, .f32⟩
  | 34 => ⟨S8x2048x1024, .f32⟩
  | 35 => ⟨S1x1024, .f32⟩
  | 36 => ⟨S1024, .f32⟩
  | 37 => ⟨S8x2048x1024, .f32⟩
  | 38 => ⟨S_, .f32⟩
  | 39 => ⟨S8x2048, .f32⟩
  | 40 => ⟨S8x2048x1, .f32⟩
  | 41 => ⟨S_, .f32⟩
  | 42 => ⟨S8x2048x1, .f32⟩
  | 43 => ⟨S8x2048x1, .f32⟩
  | 44 => ⟨S_, .f32⟩
  | 45 => ⟨S8x2048x1, .f32⟩
  | 46 => ⟨S8x2048x1, .f32⟩
  | 47 => ⟨S8x2048x1, .f32⟩
  | 48 => ⟨S8x2048x1024, .f32⟩
  | 49 => ⟨S8x2048x1024, .f32⟩
  | 50 => ⟨S1x1x1024, .f32⟩
  | 51 => ⟨S8x2048x1024, .f32⟩
  | 52 => ⟨S8x2048x1024, .f32⟩
  | 53 => ⟨S8x2048x1024, .f32⟩
  | 54 => ⟨S1x1024, .f32⟩
  | 55 => ⟨S1024, .f32⟩
  | 56 => ⟨S8x2048x1024, .f32⟩
  | 57 => ⟨S_, .f32⟩
  | 58 => ⟨S8x2048, .f32⟩
  | 59 => ⟨S8x2048x1, .f32⟩
  | 60 => ⟨S_, .f32⟩
  | 61 => ⟨S8x2048x1, .f32⟩
  | 62 => ⟨S8x2048x1, .f32⟩
  | 63 => ⟨S_, .f32⟩
  | 64 => ⟨S8x2048x1, .f32⟩
  | 65 => ⟨S8x2048x1, .f32⟩
  | 66 => ⟨S8x2048x1, .f32⟩
  | 67 => ⟨S8x2048x1024, .f32⟩
  | 68 => ⟨S8x2048x1024, .f32⟩
  | 69 => ⟨S1x1x1024, .f32⟩
  | 70 => ⟨S8x2048x1024, .f32⟩
  | 71 => ⟨S8x2048x1024, .f32⟩
  | 72 => ⟨S1x1024x5632, .f32⟩
  | 73 => ⟨S1024x5632, .f32⟩
  | 74 => ⟨S8x2048x5632, .f32⟩
  | 75 => ⟨S1x3x5632, .f32⟩
  | 76 => ⟨S3x5632, .f32⟩
  | 77 => ⟨S1x5632, .f32⟩
  | 78 => ⟨S5632, .f32⟩
  | 79 => ⟨S_, .i32⟩
  | 80 => ⟨S_, .f32⟩
  | 81 => ⟨S8x2050x5632, .f32⟩
  | 82 => ⟨S8x2048x5632, .f32⟩
  | 83 => ⟨S1x5632, .f32⟩
  | 84 => ⟨S5632, .f32⟩
  | 85 => ⟨S1x1x5632, .f32⟩
  | 86 => ⟨S8x2048x5632, .f32⟩
  | 87 => ⟨S8x2048x5632, .f32⟩
  | 88 => ⟨S1x1x5632, .f32⟩
  | 89 => ⟨S8x2048x5632, .f32⟩
  | 90 => ⟨S8x2048x5632, .f32⟩
  | 91 => ⟨S8x2048x5632, .f32⟩
  | 92 => ⟨S1x5632, .f32⟩
  | 93 => ⟨S5632, .f32⟩
  | 94 => ⟨S1x1x5632, .f32⟩
  | 95 => ⟨S8x2048x5632, .f32⟩
  | 96 => ⟨S8x2048x5632, .f32⟩
  | 97 => ⟨S8x2048x5632, .f32⟩
  | 98 => ⟨S8x2048x5632, .f32⟩
  | 99 => ⟨S1x5632, .f32⟩
  | 100 => ⟨S5632, .f32⟩
  | 101 => ⟨S1x1x5632, .f32⟩
  | 102 => ⟨S8x2048x5632, .f32⟩
  | 103 => ⟨S8x2048x5632, .f32⟩
  | 104 => ⟨S8x2048x5632, .f32⟩
  | 105 => ⟨S8x2048x2816, .f32⟩
  | 106 => ⟨S8x2048x2816, .f32⟩
  | 107 => ⟨S8x2048x2816, .f32⟩
  | 108 => ⟨S8x2048x2816, .f32⟩
  | 109 => ⟨S_, .f32⟩
  | 110 => ⟨S8x2048x2816, .f32⟩
  | 111 => ⟨S8x2048x2816, .f32⟩
  | 112 => ⟨S8x2048x2816, .f32⟩
  | 113 => ⟨S_, .f32⟩
  | 114 => ⟨S8x2048x2816, .f32⟩
  | 115 => ⟨S8x2048x2816, .f32⟩
  | 116 => ⟨S8x2048x2816, .f32⟩
  | 117 => ⟨S_, .f32⟩
  | 118 => ⟨S8x2048x2816, .f32⟩
  | 119 => ⟨S8x2048x2816, .f32⟩
  | 120 => ⟨S_, .f32⟩
  | 121 => ⟨S8x2048x2816, .f32⟩
  | 122 => ⟨S8x2048x2816, .f32⟩
  | 123 => ⟨S8x2048x2816, .f32⟩
  | 124 => ⟨S8x2048x2816, .f32⟩
  | 125 => ⟨S1x2816x1024, .f32⟩
  | 126 => ⟨S2816x1024, .f32⟩
  | 127 => ⟨S8x2048x1024, .f32⟩
  | _ => ⟨S8x2048x1024, .f32⟩

abbrev hbmTy0_1 (i : Nat) : BufTy := match i % 128 with
  | 0 => ⟨S1x1024, .f32⟩
  | 1 => ⟨S1024, .f32⟩
  | 2 => ⟨S8x2048x1024, .f32⟩
  | 3 => ⟨S_, .f32⟩
  | 4 => ⟨S8x2048, .f32⟩
  | 5 => ⟨S8x2048x1, .f32⟩
  | 6 => ⟨S_, .f32⟩
  | 7 => ⟨S8x2048x1, .f32⟩
  | 8 => ⟨S8x2048x1, .f32⟩
  | 9 => ⟨S_, .f32⟩
  | 10 => ⟨S8x2048x1, .f32⟩
  | 11 => ⟨S8x2048x1, .f32⟩
  | 12 => ⟨S8x2048x1, .f32⟩
  | 13 => ⟨S8x2048x1024, .f32⟩
  | 14 => ⟨S8x2048x1024, .f32⟩
  | 15 => ⟨S1x1x1024, .f32⟩
  | 16 => ⟨S8x2048x1024, .f32⟩
  | 17 => ⟨S8x2048x1024, .f32⟩
  | 18 => ⟨S8x2048x1024, .f32⟩
  | 19 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call0_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_8 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_cst_9 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_10 : Ref sig .tc := ⟨.hbm, 117, rfl⟩
abbrev main_v91 : Ref sig .tc := ⟨.hbm, 118, rfl⟩
abbrev main_v92 : Ref sig .tc := ⟨.hbm, 119, rfl⟩
abbrev main_cst_11 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_cst_12 : Ref sig .tc := ⟨.hbm, 131, rfl⟩
abbrev main_v103 : Ref sig .tc := ⟨.hbm, 132, rfl⟩
abbrev main_v104 : Ref sig .tc := ⟨.hbm, 133, rfl⟩
abbrev main_cst_13 : Ref sig .tc := ⟨.hbm, 134, rfl⟩
abbrev main_v105 : Ref sig .tc := ⟨.hbm, 135, rfl⟩
abbrev main_v106 : Ref sig .tc := ⟨.hbm, 136, rfl⟩
abbrev main_cst_14 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S2x1024x3080 : Shape := ⟨3, ![2, 1024, 3080]⟩
abbrev S2x4x1024 : Shape := ⟨3, ![2, 4, 1024]⟩
abbrev S2x4 : Shape := ⟨2, ![2, 4]⟩
abbrev S2x4x64x64 : Shape := ⟨4, ![2, 4, 64, 64]⟩
abbrev S2x256 : Shape := ⟨2, ![2, 256]⟩
abbrev S16384x1024 : Shape := ⟨2, ![16384, 1024]⟩
abbrev S2x1024x2048 : Shape := ⟨3, ![2, 1024, 2048]⟩
abbrev S2x1024x1024 : Shape := ⟨3, ![2, 1024, 1024]⟩
abbrev S2x1024x8 : Shape := ⟨3, ![2, 1024, 8]⟩
abbrev S_ : Shape := ⟨0, ![]⟩
abbrev S2x1024x128 : Shape := ⟨3, ![2, 1024, 128]⟩
abbrev S2x8 : Shape := ⟨2, ![2, 8]⟩
abbrev S2x128 : Shape := ⟨2, ![2, 128]⟩
abbrev S2x1x128 : Shape := ⟨3, ![2, 1, 128]⟩
abbrev S4x4 : Shape := ⟨2, ![4, 4]⟩
abbrev S2x4x64x1x64 : Shape := ⟨5, ![2, 4, 64, 1, 64]⟩
abbrev S1x4x1x4x1 : Shape := ⟨5, ![1, 4, 1, 4, 1]⟩
abbrev S2x4x64x4x64 : Shape := ⟨5, ![2, 4, 64, 4, 64]⟩
abbrev S2x256x256 : Shape := ⟨3, ![2, 256, 256]⟩
abbrev S2x1x1024 : Shape := ⟨3, ![2, 1, 1024]⟩
abbrev S2x1x256 : Shape := ⟨3, ![2, 1, 256]⟩
abbrev S16384x512 : Shape := ⟨2, ![16384, 512]⟩
abbrev S16384x128 : Shape := ⟨2, ![16384, 128]⟩
abbrev S4x16384x64 : Shape := ⟨3, ![4, 16384, 64]⟩
abbrev S16384x256 : Shape := ⟨2, ![16384, 256]⟩
abbrev S1024x1024 : Shape := ⟨2, ![1024, 1024]⟩
abbrev S1x1x1024 : Shape := ⟨3, ![1, 1, 1024]⟩
abbrev S1x1024x2048 : Shape := ⟨3, ![1, 1024, 2048]⟩
abbrev S1x1024x1024 : Shape := ⟨3, ![1, 1024, 1024]⟩
abbrev S1x1024x128 : Shape := ⟨3, ![1, 1024, 128]⟩
abbrev S1x4x1024 : Shape := ⟨3, ![1, 4, 1024]⟩
abbrev S1x1x128 : Shape := ⟨3, ![1, 1, 128]⟩
abbrev S1x256x256 : Shape := ⟨3, ![1, 256, 256]⟩
abbrev S1x1x256 : Shape := ⟨3, ![1, 1, 256]⟩
abbrev S1024x512 : Shape := ⟨2, ![1024, 512]⟩
abbrev S1024x128 : Shape := ⟨2, ![1024, 128]⟩
abbrev S4x1024x64 : Shape := ⟨3, ![4, 1024, 64]⟩
abbrev S1024x256 : Shape := ⟨2, ![1024, 256]⟩
abbrev S1032x1024 : Shape := ⟨2, ![1032, 1024]⟩
abbrev S1040x256 : Shape := ⟨2, ![1040, 256]⟩
abbrev S1x1024 : Shape := ⟨2, ![1, 1024]⟩
abbrev S1024 : Shape := ⟨1, ![1024]⟩
abbrev S1024x1 : Shape := ⟨2, ![1024, 1]⟩
abbrev S8x1024 : Shape := ⟨2, ![8, 1024]⟩
abbrev S16x256 : Shape := ⟨2, ![16, 256]⟩
abbrev S1x1024x512 : Shape := ⟨3, ![1, 1024, 512]⟩
abbrev S1x128 : Shape := ⟨2, ![1, 128]⟩
abbrev S1x1024x768 : Shape := ⟨3, ![1, 1024, 768]⟩
abbrev S1024x768 : Shape := ⟨2, ![1024, 768]⟩
abbrev S4x1024 : Shape := ⟨2, ![4, 1024]⟩
abbrev S1024x64 : Shape := ⟨2, ![1024, 64]⟩
abbrev S1x1024x64 : Shape := ⟨3, ![1, 1024, 64]⟩
abbrev S1x1024x256 : Shape := ⟨3, ![1, 1024, 256]⟩
abbrev S256x256 : Shape := ⟨2, ![256, 256]⟩
abbrev S1x256 : Shape := ⟨2, ![1, 256]⟩

abbrev nBuf : Space → Nat
  | .hbm => 52
  | .vmem => 32
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x3080, .f32⟩
  | .hbm, ⟨3, _⟩ => ⟨S2x4x1024, .f32⟩
  | .hbm, ⟨4, _⟩ => ⟨S2x1024, .f32⟩
  | .hbm, ⟨5, _⟩ => ⟨S2x4, .f32⟩
  | .hbm, ⟨6, _⟩ => ⟨S2x4, .f32⟩
  | .hbm, ⟨7, _⟩ => ⟨S2x4x64x64, .f32⟩
  | .hbm, ⟨8, _⟩ => ⟨S2x256, .f32⟩
  | .hbm, ⟨9, _⟩ => ⟨S2x256, .f32⟩
  | .hbm, ⟨10, _⟩ => ⟨S16384x1024, .f32⟩
  | .hbm, ⟨11, _⟩ => ⟨S2x1024x2048, .f32⟩
  | .hbm, ⟨12, _⟩ => ⟨S2x1024x2048, .bf16⟩
  | .hbm, ⟨13, _⟩ => ⟨S2x1024x1024, .f32⟩
  | .hbm, ⟨14, _⟩ => ⟨S2x1024x1024, .bf16⟩
  | .hbm, ⟨15, _⟩ => ⟨S2x1024x8, .f32⟩
  | .hbm, ⟨16, _⟩ => ⟨S_, .i32⟩
  | .hbm, ⟨17, _⟩ => ⟨S_, .f32⟩
  | .hbm, ⟨18, _⟩ => ⟨S2x1024x128, .f32⟩
  | .hbm, ⟨19, _⟩ => ⟨S2x1024x128, .bf16⟩
  | .hbm, ⟨20, _⟩ => ⟨S2x8, .f32⟩
  | .hbm, ⟨21, _⟩ => ⟨S_, .i32⟩
  | .hbm, ⟨22, _⟩ => ⟨S_, .f32⟩
  | .hbm, ⟨23, _⟩ => ⟨S2x128, .f32⟩
  | .hbm, ⟨24, _⟩ => ⟨S2x1x128, .f32⟩
  | .hbm, ⟨25, _⟩ => ⟨S4x4, .i32⟩
  | .hbm, ⟨26, _⟩ => ⟨S4x4, .i32⟩
  | .hbm, ⟨27, _⟩ => ⟨S_, .i32⟩
  | .hbm, ⟨28, _⟩ => ⟨S4x4, .i32⟩
  | .hbm, ⟨29, _⟩ => ⟨S4x4, .i32⟩
  | .hbm, ⟨30, _⟩ => ⟨S4x4, .i1⟩
  | .hbm, ⟨31, _⟩ => ⟨S4x4, .f32⟩
  | .hbm, ⟨32, _⟩ => ⟨S2x4x64x1x64, .f32⟩
  | .hbm, ⟨33, _⟩ => ⟨S1x4x1x4x1, .f32⟩
  | .hbm, ⟨34, _⟩ => ⟨S2x4x64x4x64, .f32⟩
  | .hbm, ⟨35, _⟩ => ⟨S2x4x64x4x64, .f32⟩
  | .hbm, ⟨36, _⟩ => ⟨S2x4x64x4x64, .f32⟩
  | .hbm, ⟨37, _⟩ => ⟨S2x256x256, .f32⟩
  | .hbm, ⟨38, _⟩ => ⟨S2x256x256, .bf16⟩
  | .hbm, ⟨39, _⟩ => ⟨S2x1x1024, .f32⟩
  | .hbm, ⟨40, _⟩ => ⟨S2x1x1024, .f32⟩
  | .hbm, ⟨41, _⟩ => ⟨S2x1x256, .f32⟩
  | .hbm, ⟨42, _⟩ => ⟨S2x1x256, .f32⟩
  | .hbm, ⟨43, _⟩ => ⟨S16384x512, .bf16⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x128, .f32⟩
  | .hbm, ⟨48, _⟩ => ⟨S4x16384x64, .bf16⟩
  | .hbm, ⟨49, _⟩ => ⟨S4x16384x64, .bf16⟩
  | .hbm, ⟨50, _⟩ => ⟨S4x16384x64, .bf16⟩
  | .hbm, ⟨51, _⟩ => ⟨S16384x256, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x2048, .bf16⟩
  | .local _ .vmem, ⟨4, _⟩ => ⟨S1x1024x1024, .bf16⟩
  | .local _ .vmem, ⟨5, _⟩ => ⟨S1x1024x128, .bf16⟩
  | .local _ .vmem, ⟨6, _⟩ => ⟨S1x4x1024, .f32⟩
  | .local _ .vmem, ⟨7, _⟩ => ⟨S1x1x1024, .f32⟩
  | .local _ .vmem, ⟨8, _⟩ => ⟨S1x1x128, .f32⟩
  | .local _ .vmem, ⟨9, _⟩ => ⟨S1x256x256, .bf16⟩
  | .local _ .vmem, ⟨10, _⟩ => ⟨S1x1x256, .f32⟩
  | .local _ .vmem, ⟨11, _⟩ => ⟨S1x1x256, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S1024x128, .f32⟩
  | .local _ .vmem, ⟨21, _⟩ => ⟨S1024x128, .f32⟩
  | .local _ .vmem, ⟨22, _⟩ => ⟨S4x1024x64, .bf16⟩
  | .local _ .vmem, ⟨23, _⟩ => ⟨S4x1024x64, .bf16⟩
  | .local _ .vmem, ⟨24, _⟩ => ⟨S4x1024x64, .bf16⟩
  | .local _ .vmem, ⟨25, _⟩ => ⟨S4x1024x64, .bf16⟩
  | .local _ .vmem, ⟨26, _⟩ => ⟨S4x1024x64, .bf16⟩
  | .local _ .vmem, ⟨27, _⟩ => ⟨S4x1024x64, .bf16⟩
  | .local _ .vmem, ⟨28, _⟩ => ⟨S1024x256, .bf16⟩
  | .local _ .vmem, ⟨29, _⟩ => ⟨S1024x256, .bf16⟩
  | .local _ .vmem, ⟨30, _⟩ => ⟨S1032x1024, .f32⟩
  | .local _ .vmem, ⟨31, _⟩ => ⟨S1040x256, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v28_2 : Ref sig .tc := ⟨.hbm, 45, rfl⟩
abbrev main_v28_3 : Ref sig .tc := ⟨.hbm, 46, rfl⟩
abbrev main_v28_4 : Ref sig .tc := ⟨.hbm, 47, rfl⟩
abbrev main_v28_5 : Ref sig .tc := ⟨.hbm, 48, rfl⟩
abbrev main_v28_6 : Ref sig .tc := ⟨.hbm, 49, rfl⟩
abbrev main_v28_7 : Ref sig .tc := ⟨.hbm, 50, rfl⟩
abbrev main_v28_8 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x1024x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x1024x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x1024x64 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Kernel2Ideal.lean ====
variable {F : FTy → Type} [FloatOps F] [Named F]
def κ : String → Option EReal := fun
  | "sb_scale" => some (((1 / 8) * (Real.log 2)⁻¹ : ℝ) : EReal)
  | _ => none
-- ==== Reference2Ideal.lean ====
abbrev S8x2048x1024 : Shape := ⟨3, ![8, 2048, 1024]⟩
abbrev S2x1024 : Shape := ⟨2, ![2, 1024]⟩
abbrev S2x1024x3080 : Shape := ⟨3, ![2, 1024, 3080]⟩
abbrev S2x4x1024 : Shape := ⟨3, ![2, 4, 1024]⟩
abbrev S2x4 : Shape := ⟨2, ![2, 4]⟩
abbrev S2x4x64x64 : Shape := ⟨4, ![2, 4, 64, 64]⟩
abbrev S2x256 : Shape := ⟨2, ![2, 256]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x3080 : Shape := ⟨3, ![1, 1024, 3080]⟩
abbrev S1024x3080 : Shape := ⟨2, ![1024, 3080]⟩
abbrev S8x2048x3080 : Shape := ⟨3, ![8, 2048, 3080]⟩
abbrev S8x2048x512 : Shape := ⟨3, ![8, 2048, 512]⟩
abbrev S8x2048x4 : Shape := ⟨3, ![8, 2048, 4]⟩
abbrev S8x2048x256 : Shape := ⟨3, ![8, 2048, 256]⟩
abbrev S1x4x1024 : Shape := ⟨3, ![1, 4, 1024]⟩
abbrev S4x1024 : Shape := ⟨2, ![4, 1024]⟩
abbrev S8x2051x1024 : Shape := ⟨3, ![8, 2051, 1024]⟩
abbrev S8x2048x120 : Shape := ⟨3, ![8, 2048, 120]⟩
abbrev S1x4 : Shape := ⟨2, ![1, 4]⟩
abbrev S4 : Shape := ⟨1, ![4]⟩
abbrev S1x1x4 : Shape := ⟨3, ![1, 1, 4]⟩
abbrev S8x2048x128 : Shape := ⟨3, ![8, 2048, 128]⟩
abbrev S8x2048x64 : Shape := ⟨3, ![8, 2048, 64]⟩
abbrev S8x2049x64 : Shape := ⟨3, ![8, 2049, 64]⟩
abbrev S2048 : Shape := ⟨1, ![2048]⟩
abbrev S1x2048x1 : Shape := ⟨3, ![1, 2048, 1]⟩
abbrev S8x2051x64 : Shape := ⟨3, ![8, 2051, 64]⟩
abbrev S8x2055x64 : Shape := ⟨3, ![8, 2055, 64]⟩
abbrev S8x2063x64 : Shape := ⟨3, ![8, 2063, 64]⟩
abbrev S8x2048x4x64 : Shape := ⟨4, ![8, 2048, 4, 64]⟩
abbrev S1x4x64x64 : Shape := ⟨4, ![1, 4, 64, 64]⟩
abbrev S4x64x64 : Shape := ⟨3, ![4, 64, 64]⟩
abbrev S4x64x8x2048 : Shape := ⟨4, ![4, 64, 8, 2048]⟩
abbrev S1x256 : Shape := ⟨2, ![1, 256]⟩
abbrev S256 : Shape := ⟨1, ![256]⟩
abbrev S1x1x256 : Shape := ⟨3, ![1, 1, 256]⟩
abbrev S16384x512 : Shape := ⟨2, ![16384, 512]⟩
abbrev S16384x128 : Shape := ⟨2, ![16384, 128]⟩
abbrev S16384x4x64 : Shape := ⟨3, ![16384, 4, 64]⟩
abbrev S4x16384x64 : Shape := ⟨3, ![4, 16384, 64]⟩
abbrev S16384x256 : Shape := ⟨2, ![16384, 256]⟩

abbrev nBuf : Space → Nat
  | .hbm => 313
  | .vmem => 0
  | .smem => 0
  | _ => 0

abbrev hbmTy0_0 (i : Nat) : BufTy := match i % 128 with
  | 0 => ⟨S8x2048x1024, .f32⟩
  | 1 => ⟨S2x1024, .f32⟩
  | 2 => ⟨S2x1024x3080, .f32⟩
  | 3 => ⟨S2x4x1024, .f32⟩
  | 4 => ⟨S2x1024, .f32⟩
  | 5 => ⟨S2x4, .f32⟩
  | 6 => ⟨S2x4, .f32⟩
  | 7 => ⟨S2x4x64x64, .f32⟩
  | 8 => ⟨S2x256, .f32⟩
  | 9 => ⟨S2x256, .f32⟩
  | 10 => ⟨S1x1024, .f32⟩
  | 11 => ⟨S1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S1x1024x3080, .f32⟩
  | 29 => ⟨S1024x3080, .f32⟩
  | 30 => ⟨S8x2048x3080, .f32⟩
  | 31 => ⟨S8x2048x512, .f32⟩
  | 32 => ⟨S8x2048x512, .f32⟩
  | 33 => ⟨S8x2048x512, .f32⟩
  | 34 => ⟨S8x2048x512, .f32⟩
  | 35 => ⟨S8x2048x4, .f32⟩
  | 36 => ⟨S8x2048x4, .f32⟩
  | 37 => ⟨S8x2048x256, .f32⟩
  | 38 => ⟨S8x2048x256, .f32⟩
  | 39 => ⟨S8x2048x256, .f32⟩
  | 40 => ⟨S8x2048x256, .f32⟩
  | 41 => ⟨S8x2048x1024, .f32⟩
  | 42 => ⟨S1x4x1024, .f32⟩
  | 43 => ⟨S4x1024, .f32⟩
  | 44 => ⟨S1x1024, .f32⟩
  | 45 => ⟨S1024, .f32⟩
  | 46 => ⟨S_, .i32⟩
  | 47 => ⟨S_, .f32⟩
  | 48 => ⟨S8x2051x1024, .f32⟩
  | 49 => ⟨S8x2048x1024, .f32⟩
  | 50 => ⟨S1x1024, .f32⟩
  | 51 => ⟨S1024, .f32⟩
  | 52 => ⟨S1x1x1024, .f32⟩
  | 53 => ⟨S8x2048x1024, .f32⟩
  | 54 => ⟨S8x2048x1024, .f32⟩
  | 55 => ⟨S1x1x1024, .f32⟩
  | 56 => ⟨S8x2048x1024, .f32⟩
  | 57 => ⟨S8x2048x1024, .f32⟩
  | 58 => ⟨S8x2048x1024, .f32⟩
  | 59 => ⟨S1x1024, .f32⟩
  | 60 => ⟨S1024, .f32⟩
  | 61 => ⟨S1x1x1024, .f32⟩
  | 62 => ⟨S8x2048x1024, .f32⟩
  | 63 => ⟨S8x2048x1024, .f32⟩
  | 64 => ⟨S8x2048x1024, .f32⟩
  | 65 => ⟨S8x2048x1024, .f32⟩
  | 66 => ⟨S1x1024, .f32⟩
  | 67 => ⟨S1024, .f32⟩
  | 68 => ⟨S1x1x1024, .f32⟩
  | 69 => ⟨S8x2048x1024, .f32⟩
  | 70 => ⟨S8x2048x1024, .f32⟩
  | 71 => ⟨S8x2048x1024, .f32⟩
  | 72 => ⟨S8x2048x1024, .f32⟩
  | 73 => ⟨S1x1024, .f32⟩
  | 74 => ⟨S1024, .f32⟩
  | 75 => ⟨S1x1x1024, .f32⟩
  | 76 => ⟨S8x2048x1024, .f32⟩
  | 77 => ⟨S8x2048x1024, .f32⟩
  | 78 => ⟨S8x2048x1024, .f32⟩
  | 79 => ⟨S8x2048x1024, .f32⟩
  | 80 => ⟨S8x2048x1024, .f32⟩
  | 81 => ⟨S_, .f32⟩
  | 82 => ⟨S8x2048x1024, .f32⟩
  | 83 => ⟨S8x2048x1024, .f32⟩
  | 84 => ⟨S_, .f32⟩
  | 85 => ⟨S8x2048x1024, .f32⟩
  | 86 => ⟨S8x2048x1024, .f32⟩
  | 87 => ⟨S8x2048x1024, .f32⟩
  | 88 => ⟨S8x2048x512, .f32⟩
  | 89 => ⟨S8x2048x512, .f32⟩
  | 90 => ⟨S_, .f32⟩
  | 91 => ⟨S8x2048x512, .f32⟩
  | 92 => ⟨S8x2048x512, .f32⟩
  | 93 => ⟨S_, .f32⟩
  | 94 => ⟨S8x2048x120, .f32⟩
  | 95 => ⟨S8x2048x120, .f32⟩
  | 96 => ⟨S_, .f32⟩
  | 97 => ⟨S8x2048x120, .f32⟩
  | 98 => ⟨S8x2048x120, .f32⟩
  | 99 => ⟨S8x2048x120, .f32⟩
  | 100 => ⟨S8x2048x120, .f32⟩
  | 101 => ⟨S8x2048x120, .i1⟩
  | 102 => ⟨S8x2048x120, .f32⟩
  | 103 => ⟨S8x2048x120, .f32⟩
  | 104 => ⟨S8x2048x120, .f32⟩
  | 105 => ⟨S8x2048x120, .f32⟩
  | 106 => ⟨S8x2048x120, .f32⟩
  | 107 => ⟨S8x2048x120, .f32⟩
  | 108 => ⟨S8x2048x120, .f32⟩
  | 109 => ⟨S8x2048x120, .f32⟩
  | 110 => ⟨S8x2048x120, .f32⟩
  | 111 => ⟨S1x4, .f32⟩
  | 112 => ⟨S4, .f32⟩
  | 113 => ⟨S1x1x4, .f32⟩
  | 114 => ⟨S8x2048x4, .f32⟩
  | 115 => ⟨S8x2048x4, .f32⟩
  | 116 => ⟨S1x4, .f32⟩
  | 117 => ⟨S4, .f32⟩
  | 118 => ⟨S1x1x4, .f32⟩
  | 119 => ⟨S8x2048x4, .f32⟩
  | 120 => ⟨S8x2048x4, .f32⟩
  | 121 => ⟨S8x2048x4, .f32⟩
  | 122 => ⟨S_, .f32⟩
  | 123 => ⟨S8x2048x4, .f32⟩
  | 124 => ⟨S8x2048x4, .f32⟩
  | 125 => ⟨S8x2048x4, .f32⟩
  | 126 => ⟨S8x2048x4, .f32⟩
  | 127 => ⟨S8x2048x4, .i1⟩
  | _ => ⟨S8x2048x1024, .f32⟩

abbrev hbmTy0_1 (i : Nat) : BufTy := match i % 128 with
  | 0 => ⟨S8x2048x4, .f32⟩
  | 1 => ⟨S8x2048x4, .f32⟩
  | 2 => ⟨S8x2048x4, .f32⟩
  | 3 => ⟨S8x2048x4, .f32⟩
  | 4 => ⟨S8x2048x4, .f32⟩
  | 5 => ⟨S8x2048x4, .f32⟩
  | 6 => ⟨S8x2048x4, .f32⟩
  | 7 => ⟨S8x2048x4, .f32⟩
  | 8 => ⟨S8x2048x4, .f32⟩
  | 9 => ⟨S8x2048x128, .f32⟩
  | 10 => ⟨S_, .f32⟩
  | 11 => ⟨S8x2048x256, .f32⟩
  | 12 => ⟨S8x2048x256, .f32⟩
  | 13 => ⟨S_, .f32⟩
  | 14 => ⟨S_, .f32⟩
  | 15 => ⟨S_, .f32⟩
  | 16 => ⟨S8x2048x256, .f32⟩
  | 17 => ⟨S8x2048x256, .f32⟩
  | 18 => ⟨S8x2048x64, .f32⟩
  | 19 => ⟨S_, .i32⟩
  | 20 => ⟨S_, .f32⟩
  | 21 => ⟨S8x2049x64, .f32⟩
  | 22 => ⟨S8x2048x64, .f32⟩
  | 23 => ⟨S8x2048x64, .f32⟩
  | 24 => ⟨S8x2048x64, .f32⟩
  | 25 => ⟨S2048, .i32⟩
  | 26 => ⟨S2048, .f32⟩
  | 27 => ⟨S_, .f32⟩
  | 28 => ⟨S2048, .f32⟩
  | 29 => ⟨S2048, .f32⟩
  | 30 => ⟨S_, .f32⟩
  | 31 => ⟨S2048, .f32⟩
  | 32 => ⟨S2048, .f32⟩
  | 33 => ⟨S1x2048x1, .f32⟩
  | 34 => ⟨S8x2048x64, .f32⟩
  | 35 => ⟨S8x2048x64, .f32⟩
  | 36 => ⟨S8x2048x64, .f32⟩
  | 37 => ⟨S_, .i32⟩
  | 38 => ⟨S_, .f32⟩
  | 39 => ⟨S8x2051x64, .f32⟩
  | 40 => ⟨S8x2048x64, .f32⟩
  | 41 => ⟨S8x2048x64, .f32⟩
  | 42 => ⟨S8x2048x64, .f32⟩
  | 43 => ⟨S8x2048x64, .f32⟩
  | 44 => ⟨S8x2048x64, .f32⟩
  | 45 => ⟨S8x2048x64, .f32⟩
  | 46 => ⟨S8x2048x64, .f32⟩
  | 47 => ⟨S2048, .i32⟩
  | 48 => ⟨S2048, .f32⟩
  | 49 => ⟨S_, .f32⟩
  | 50 => ⟨S2048, .f32⟩
  | 51 => ⟨S2048, .f32⟩
  | 52 => ⟨S_, .f32⟩
  | 53 => ⟨S2048, .f32⟩
  | 54 => ⟨S2048, .f32⟩
  | 55 => ⟨S1x2048x1, .f32⟩
  | 56 => ⟨S8x2048x64, .f32⟩
  | 57 => ⟨S8x2048x64, .f32⟩
  | 58 => ⟨S8x2048x64, .f32⟩
  | 59 => ⟨S_, .i32⟩
  | 60 => ⟨S_, .f32⟩
  | 61 => ⟨S8x2055x64, .f32⟩
  | 62 => ⟨S8x2048x64, .f32⟩
  | 63 => ⟨S8x2048x64, .f32⟩
  | 64 => ⟨S8x2048x64, .f32⟩
  | 65 => ⟨S8x2048x64, .f32⟩
  | 66 => ⟨S8x2048x64, .f32⟩
  | 67 => ⟨S8x2048x64, .f32⟩
  | 68 => ⟨S8x2048x64, .f32⟩
  | 69 => ⟨S8x2048x64, .f32⟩
  | 70 => ⟨S8x2048x64, .f32⟩
  | 71 => ⟨S8x2048x64, .f32⟩
  | 72 => ⟨S8x2048x64, .f32⟩
  | 73 => ⟨S8x2048x64, .f32⟩
  | 74 => ⟨S8x2048x64, .f32⟩
  | 75 => ⟨S8x2048x64, .f32⟩
  | 76 => ⟨S8x2048x64, .f32⟩
  | 77 => ⟨S2048, .i32⟩
  | 78 => ⟨S2048, .f32⟩
  | 79 => ⟨S_, .f32⟩
  | 80 => ⟨S2048, .f32⟩
  | 81 => ⟨S2048, .f32⟩
  | 82 => ⟨S_, .f32⟩
  | 83 => ⟨S2048, .f32⟩
  | 84 => ⟨S2048, .f32⟩
  | 85 => ⟨S1x2048x1, .f32⟩
  | 86 => ⟨S8x2048x64, .f32⟩
  | 87 => ⟨S8x2048x64, .f32⟩
  | 88 => ⟨S8x2048x64, .f32⟩
  | 89 => ⟨S_, .i32⟩
  | 90 => ⟨S_, .f32⟩
  | 91 => ⟨S8x2063x64, .f32⟩
  | 92 => ⟨S8x2048x64, .f32⟩
  | 93 => ⟨S8x2048x64, .f32⟩
  | 94 => ⟨S8x2048x64, .f32⟩
  | 95 => ⟨S8x2048x64, .f32⟩
  | 96 => ⟨S8x2048x64, .f32⟩
  | 97 => ⟨S8x2048x64, .f32⟩
  | 98 => ⟨S8x2048x64, .f32⟩
  | 99 => ⟨S8x2048x64, .f32⟩
  | 100 => ⟨S8x2048x64, .f32⟩
  | 101 => ⟨S8x2048x64, .f32⟩
  | 102 => ⟨S8x2048x64, .f32⟩
  | 103 => ⟨S8x2048x64, .f32⟩
  | 104 => ⟨S8x2048x64, .f32⟩
  | 105 => ⟨S8x2048x64, .f32⟩
  | 106 => ⟨S8x2048x64, .f32⟩
  | 107 => ⟨S8x2048x64, .f32⟩
  | 108 => ⟨S8x2048x64, .f32⟩
  | 109 => ⟨S8x2048x64, .f32⟩
  | 110 => ⟨S8x2048x64, .f32⟩
  | 111 => ⟨S8x2048x64, .f32⟩
  | 112 => ⟨S8x2048x64, .f32⟩
  | 113 => ⟨S8x2048x64, .f32⟩
  | 114 => ⟨S8x2048x64, .f32⟩
  | 115 => ⟨S8x2048x64, .f32⟩
  | 116 => ⟨S8x2048x64, .f32⟩
  | 117 => ⟨S8x2048x64, .f32⟩
  | 118 => ⟨S8x2048x64, .f32⟩
  | 119 => ⟨S8x2048x64, .f32⟩
  | 120 => ⟨S8x2048x64, .f32⟩
  | 121 => ⟨S8x2048x64, .f32⟩
  | 122 => ⟨S8x2048x64, .f32⟩
  | 123 => ⟨S2048, .i32⟩
  | 124 => ⟨S2048, .f32⟩
  | 125 => ⟨S_, .f32⟩
  | 126 => ⟨S2048, .f32⟩
  | 127 => ⟨S2048, .f32⟩
  | _ => ⟨S8x2048x1024, .f32⟩

abbrev hbmTy0_2 (i : Nat) : BufTy := match i % 128 with
  | 0 => ⟨S_, .f32⟩
  | 1 => ⟨S2048, .f32⟩
  | 2 => ⟨S2048, .f32⟩
  | 3 => ⟨S1x2048x1, .f32⟩
  | 4 => ⟨S8x2048x64, .f32⟩
  | 5 => ⟨S8x2048x64, .f32⟩
  | 6 => ⟨S8x2048x256, .f32⟩
  | 7 => ⟨S8x2048x256, .f32⟩
  | 8 => ⟨S8x2048x4x64, .f32⟩
  | 9 => ⟨S1x4x64x64, .f32⟩
  | 10 => ⟨S4x64x64, .f32⟩
  | 11 => ⟨S4x64x8x2048, .f32⟩
  | 12 => ⟨S8x2048x4x64, .f32⟩
  | 13 => ⟨S8x2048x256, .f32⟩
  | 14 => ⟨S1x256, .f32⟩
  | 15 => ⟨S256, .f32⟩
  | 16 => ⟨S1x1x256, .f32⟩
  | 17 => ⟨S8x2048x256, .f32⟩
  | 18 => ⟨S8x2048x256, .f32⟩
  | 19 => ⟨S1x256, .f32⟩
  | 20 => ⟨S256, .f32⟩
  | 21 => ⟨S8x2048x256, .f32⟩
  | 22 => ⟨S_, .f32⟩
  | 23 => ⟨S8x2048, .f32⟩
  | 24 => ⟨S8x2048x1, .f32⟩
  | 25 => ⟨S_, .f32⟩
  | 26 => ⟨S8x2048x1, .f32⟩
  | 27 => ⟨S8x2048x1, .f32⟩
  | 28 => ⟨S_, .f32⟩
  | 29 => ⟨S8x2048x1, .f32⟩
  | 30 => ⟨S8x2048x1, .f32⟩
  | 31 => ⟨S8x2048x1, .f32⟩
  | 32 => ⟨S8x2048x256, .f32⟩
  | 33 => ⟨S8x2048x256, .f32⟩
  | 34 => ⟨S1x1x256, .f32⟩
  | 35 => ⟨S8x2048x256, .f32⟩
  | 36 => ⟨S8x2048x256, .f32⟩
  | 37 => ⟨S16384x512, .f32⟩
  | 38 => ⟨S16384x512, .bf16⟩
  | 39 => ⟨S16384x512, .f32⟩
  | 40 => ⟨S16384x512, .bf16⟩
  | 41 => ⟨S16384x512, .f32⟩
  | 42 => ⟨S16384x512, .bf16⟩
  | 43 => ⟨S16384x512, .f32⟩
  | 44 => ⟨S16384x512, .bf16⟩
  | 45 => ⟨S16384x128, .f32⟩
  | 46 => ⟨S16384x4x64, .f32⟩
  | 47 => ⟨S4x16384x64, .f32⟩
  | 48 => ⟨S4x16384x64, .bf16⟩
  | 49 => ⟨S16384x4x64, .f32⟩
  | 50 => ⟨S4x16384x64, .f32⟩
  | 51 => ⟨S4x16384x64, .bf16⟩
  | 52 => ⟨S16384x4x64, .f32⟩
  | 53 => ⟨S4x16384x64, .f32⟩
  | 54 => ⟨S4x16384x64, .bf16⟩
  | 55 => ⟨S16384x256, .f32⟩
  | 56 => ⟨S16384x256, .bf16⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_2 : Ref sig .tc := ⟨.hbm, 90, rfl⟩
abbrev main_v67 : Ref sig .tc := ⟨.hbm, 91, rfl⟩
abbrev main_v68 : Ref sig .tc := ⟨.hbm, 92, rfl⟩
abbrev main_cst_3 : Ref sig .tc := ⟨.hbm, 93, rfl⟩
abbrev main_v69 : Ref sig .tc := ⟨.hbm, 94, rfl⟩
abbrev main_call2_v0 : Ref sig .tc := ⟨.hbm, 95, rfl⟩
abbrev main_call2_call0_cst : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_call0_v2 : Ref sig .tc := ⟨.hbm, 99, rfl⟩
abbrev main_call2_call0_v3 : Ref sig .tc := ⟨.hbm, 100, rfl⟩
abbrev main_call2_call0_v4 : Ref sig .tc := ⟨.hbm, 101, rfl⟩
abbrev main_call2_call0_v5 : Ref sig .tc := ⟨.hbm, 102, rfl⟩
abbrev main_call2_call0_v6 : Ref sig .tc := ⟨.hbm, 103, rfl⟩
abbrev main_call2_call0_v7 : Ref sig .tc := ⟨.hbm, 104, rfl⟩
abbrev main_call2_call0_v8 : Ref sig .tc := ⟨.hbm, 105, rfl⟩
abbrev main_call2_call0_v9 : Ref sig .tc := ⟨.hbm, 106, rfl⟩
abbrev main_call2_call0_v10 : Ref sig .tc := ⟨.hbm, 107, rfl⟩
abbrev main_call2_call0_v11 : Ref sig .tc := ⟨.hbm, 108, rfl⟩
abbrev main_call2_v1 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_call3_v0 : Ref sig .tc := ⟨.hbm, 121, rfl⟩
abbrev main_call3_call0_cst : Ref sig .tc := ⟨.hbm, 122, rfl⟩
abbrev main_call3_call0_v0 : Ref sig .tc := ⟨.hbm, 123, rfl⟩
abbrev main_call3_call0_v1 : Ref sig .tc := ⟨.hbm, 124, rfl⟩
abbrev main_call3_call0_v2 : Ref sig .tc := ⟨.hbm, 125, rfl⟩
abbrev main_call3_call0_v3 : Ref sig .tc := ⟨.hbm, 126, rfl⟩
abbrev main_call3_call0_v4 : Ref sig .tc := ⟨.hbm, 127, rfl⟩
abbrev main_call3_call0_v5 : Ref sig .tc := ⟨.hbm, 128, rfl⟩
abbrev main_call3_call0_v6 : Ref sig .tc := ⟨.hbm, 129, rfl⟩
abbrev main_call3_call0_v7 : Ref sig .tc := ⟨.hbm, 130, rfl⟩
abbrev main_call3_call0_v8 : Ref sig .tc := ⟨.hbm, 131, rfl⟩
abbrev main_call3_call0_v9 : Ref sig .tc := ⟨.hbm, 132, rfl⟩
abbrev main_call3_call0_v10 : Ref sig .tc := ⟨.hbm, 133, rfl⟩
abbrev main_call3_call0_v11 : Ref sig .tc := ⟨.hbm, 134, rfl⟩
abbrev main_call3_v1 : Ref sig .tc := ⟨.hbm, 135, rfl⟩
abbrev main_v81 : Ref sig .tc := ⟨.hbm, 136, rfl⟩
abbrev main_v82 : Ref sig .tc := ⟨.hbm, 137, rfl⟩
abbrev main_cst_4 : Ref sig .tc := ⟨.hbm, 138, rfl⟩
abbrev main_v83 : Ref sig .tc := ⟨.hbm, 139, rfl⟩
abbrev main_v84 : Ref sig .tc := ⟨.hbm, 140, rfl⟩
abbrev main_cst_5 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_6 : Ref sig .tc := ⟨.hbm, 147, rfl⟩
abbrev main_call4_v0 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_cst_7 : Ref sig .tc := ⟨.hbm, 155, rfl⟩
abbrev main_v96 : Ref sig .tc := ⟨.hbm, 156, rfl⟩
abbrev main_v97 : Ref sig .tc := ⟨.hbm, 157, rfl⟩
abbrev main_cst_8 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_c_9 : Ref sig .tc := ⟨.hbm, 165, rfl⟩
abbrev main_call5_v0 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_10 : Ref sig .tc := ⟨.hbm, 177, rfl⟩
abbrev main_v114 : Ref sig .tc := ⟨.hbm, 178, rfl⟩
abbrev main_v115 : Ref sig .tc := ⟨.hbm, 179, rfl⟩
abbrev main_cst_11 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_c_12 : Ref sig .tc := ⟨.hbm, 187, rfl⟩
abbrev main_call6_v0 : Ref sig .tc := ⟨.hbm, 188, rfl⟩
abbrev main_v122 : Ref sig .tc := ⟨.hbm, 189, rfl⟩
abbrev main_v123 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_cst_13 : Ref sig .tc := ⟨.hbm, 207, rfl⟩
abbrev main_v140 : Ref sig .tc := ⟨.hbm, 208, rfl⟩
abbrev main_v141 : Ref sig .tc := ⟨.hbm, 209, rfl⟩
abbrev main_cst_14 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_c_15 : Ref sig .tc := ⟨.hbm, 217, rfl⟩
abbrev main_call7_v0 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev main_v159 : Ref sig .tc := ⟨.hbm, 230, rfl⟩
abbrev main_v160 : Ref sig .tc := ⟨.hbm, 231, rfl⟩
abbrev main_v161 : Ref sig .tc := ⟨.hbm, 232, rfl⟩
abbrev main_v162 : Ref sig .tc := ⟨.hbm, 233, rfl⟩
abbrev main_v163 : Ref sig .tc := ⟨.hbm, 234, rfl⟩
abbrev main_v164 : Ref sig .tc := ⟨.hbm, 235, rfl⟩
abbrev main_v165 : Ref sig .tc := ⟨.hbm, 236, rfl⟩
abbrev main_v166 : Ref sig .tc := ⟨.hbm, 237, rfl⟩
abbrev main_v167 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_v173 : Ref sig .tc := ⟨.hbm, 244, rfl⟩
abbrev main_v174 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_v178 : Ref sig .tc := ⟨.hbm, 249, rfl⟩
abbrev main_v179 : Ref sig .tc := ⟨.hbm, 250, rfl⟩
abbrev main_v180 : Ref sig .tc := ⟨.hbm, 251, rfl⟩
abbrev main_v181 : Ref sig .tc := ⟨.hbm, 252, rfl⟩
abbrev main_cst_16 : Ref sig .tc := ⟨.hbm, 253, rfl⟩
abbrev main_v182 : Ref sig .tc := ⟨.hbm, 254, rfl⟩
abbrev main_v183 : Ref sig .tc := ⟨.hbm, 255, rfl⟩
abbrev main_cst_17 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_v204 : Ref sig .tc := ⟨.hbm, 277, rfl⟩
abbrev main_cst_18 : Ref sig .tc := ⟨.hbm, 278, rfl⟩
abbrev main_v205 : Ref sig .tc := ⟨.hbm, 279, rfl⟩
abbrev main_v206 : Ref sig .tc := ⟨.hbm, 280, rfl⟩
abbrev main_cst_19 : Ref sig .tc := ⟨.hbm, 281, rfl⟩
abbrev main_v207 : Ref sig .tc := ⟨.hbm, 282, rfl⟩
abbrev main_v208 : Ref sig .tc := ⟨.hbm, 283, rfl⟩
abbrev main_cst_20 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩

abbrev nD : Nat := 1
abbrev τ : Topo := Topo.v7x

variable {F : FTy → Type} [FloatOps F]
-- ==== Kernel3.lean ====
abbrev S16384x512 : Shape := ⟨2, ![16384, 512]⟩
abbrev S16384x128 : Shape := ⟨2, ![16384, 128]⟩
abbrev S2x512 : Shape := ⟨2, ![2, 512]⟩
abbrev S2x1x512 : Shape := ⟨3, ![2, 1, 512]⟩
abbrev S16384x8 : Shape := ⟨2, ![16384, 8]⟩
abbrev S8x8x256x8 : Shape := ⟨4, ![8, 8, 256, 8]⟩
abbrev S8x8x8x256 : Shape := ⟨4, ![8, 8, 8, 256]⟩
abbrev S256x256 : Shape := ⟨2, ![256, 256]⟩
abbrev S256x768 : Shape := ⟨2, ![256, 768]⟩
abbrev S768x256 : Shape := ⟨2, ![768, 256]⟩
abbrev S8x2048x512 : Shape := ⟨3, ![8, 2048, 512]⟩
abbrev S8x2048x128 : Shape := ⟨3, ![8, 2048, 128]⟩
abbrev S2x256x512 : Shape := ⟨3, ![2, 256, 512]⟩
abbrev S2x256x128 : Shape := ⟨3, ![2, 256, 128]⟩
abbrev S2x1x8x256 : Shape := ⟨4, ![2, 1, 8, 256]⟩
abbrev S1x1x512 : Shape := ⟨3, ![1, 1, 512]⟩
abbrev S8x128x256 : Shape := ⟨3, ![8, 128, 256]⟩
abbrev S8x128 : Shape := ⟨2, ![8, 128]⟩
abbrev S256x128 : Shape := ⟨2, ![256, 128]⟩
abbrev S1x256x128 : Shape := ⟨3, ![1, 256, 128]⟩
abbrev S1x1x8x256 : Shape := ⟨4, ![1, 1, 8, 256]⟩
abbrev S8x256 : Shape := ⟨2, ![8, 256]⟩
abbrev S768x128 : Shape := ⟨2, ![768, 128]⟩
abbrev S8x768 : Shape := ⟨2, ![8, 768]⟩
abbrev S1x128x256 : Shape := ⟨3, ![1, 128, 256]⟩
abbrev S128x256 : Shape := ⟨2, ![128, 256]⟩
abbrev S256x1 : Shape := ⟨2, ![256, 1]⟩
abbrev S1x256 : Shape := ⟨2, ![1, 256]⟩
abbrev S1x1 : Shape := ⟨2, ![1, 1]⟩
abbrev S256 : Shape := ⟨1, ![256]⟩
abbrev S1x128 : Shape := ⟨2, ![1, 128]⟩
abbrev S256x512 : Shape := ⟨2, ![256, 512]⟩
abbrev S1x512 : Shape := ⟨2, ![1, 512]⟩
abbrev S1x256x512 : Shape := ⟨3, ![1, 256, 512]⟩

abbrev nBuf : Space → Nat
  | .hbm => 23
  | .vmem => 19
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x128, .f32⟩
  | .hbm, ⟨5, _⟩ => ⟨S2x512, .f32⟩
  | .hbm, ⟨6, _⟩ => ⟨S2x1x512, .f32⟩
  | .hbm, ⟨7, _⟩ => ⟨S16384x8, .f32⟩
  | .hbm, ⟨8, _⟩ => ⟨S8x8x256x8, .f32⟩
  | .hbm, ⟨9, _⟩ => ⟨S8x8x8x256, .f32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .bf16⟩
  | .hbm, ⟨14, _⟩ => ⟨S256x768, .bf16⟩
  | .hbm, ⟨15, _⟩ => ⟨S256x256, .bf16⟩
  | .hbm, ⟨16, _⟩ => ⟨S768x256, .bf16⟩
  | .hbm, ⟨17, _⟩ => ⟨S8x2048x512, .bf16⟩
  | .hbm, ⟨18, _⟩ => ⟨S8x2048x512, .bf16⟩
  | .hbm, ⟨19, _⟩ => ⟨S8x2048x512, .bf16⟩
  | .hbm, ⟨20, _⟩ => ⟨S8x2048x512, .bf16⟩
  | .hbm, ⟨21, _⟩ => ⟨S8x2048x128, .f32⟩
  | .hbm, ⟨22, _⟩ => ⟨S8x2048x512, .bf16⟩
  | .local _ .vmem, ⟨0, _⟩ => ⟨S2x256x512, .bf16⟩
  | .local _ .vmem, ⟨1, _⟩ => ⟨S2x256x512, .bf16⟩
  | .local _ .vmem, ⟨2, _⟩ => ⟨S2x256x512, .bf16⟩
  | .local _ .vmem, ⟨3, _⟩ => ⟨S2x256x512, .bf16⟩
  | .local _ .vmem, ⟨4, _⟩ => ⟨S2x256x512, .bf16⟩
  | .local _ .vmem, ⟨5, _⟩ => ⟨S2x256x512, .bf16⟩
  | .local _ .vmem, ⟨6, _⟩ => ⟨S2x256x512, .bf16⟩
  | .local _ .vmem, ⟨7, _⟩ => ⟨S2x256x512, .bf16⟩
  | .local _ .vmem, ⟨8, _⟩ => ⟨S2x256x128, .f32⟩
  | .local _ .vmem, ⟨9, _⟩ => ⟨S2x256x128, .f32⟩
  | .local _ .vmem, ⟨10, _⟩ => ⟨S2x1x8x256, .f32⟩
  | .local _ .vmem, ⟨11, _⟩ => ⟨S2x1x8x256, .f32⟩
  | .local _ .vmem, ⟨12, _⟩ => ⟨S1x1x512, .f32⟩
  | .local _ .vmem, ⟨13, _⟩ => ⟨S256x768, .bf16⟩
  | .local _ .vmem, ⟨14, _⟩ => ⟨S768x256, .bf16⟩
  | .local _ .vmem, ⟨15, _⟩ => ⟨S2x256x512, .bf16⟩
  | .local _ .vmem, ⟨16, _⟩ => ⟨S2x256x512, .bf16⟩
  | .local _ .vmem, ⟨17, _⟩ => ⟨S8x128x256, .f32⟩
  | .local _ .vmem, ⟨18, _⟩ => ⟨S8x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel3Ideal.lean ====
variable {F : FTy → Type} [FloatOps F] [Named F]
def κ : String → Option EReal := fun
  | "log2e" => some (((Real.log 2)⁻¹ : ℝ) : EReal)
  | _ => none
-- ==== Proof.Blocks.lean ====
module

public import proofs.«01_k».proof.Proof.Gen.KernelIdeal.Value
public import Idealize.ShloMosaic.Lib.Pipeline.ValueKit
public import Idealize.ShloMosaic.Lib.Pointwise

@[expose] public section
set_option maxRecDepth 16384
noncomputable section
namespace Cert.KernelIdeal.Out
open Cert.KernelIdeal Cert.KernelIdeal.Gen Idealize.ShloMosaic Idealize.ShloMosaic.TcCoe Idealize.SL.Sem

variable (m : (ℓ : Loc nD τ sig) → Buf (Elt Ideal) ℓ)

/-- The blocks of the tokens' windows: one tile of rows per point. -/
theorem idx : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = t.val ∧ win0_2.index t 2 = 0)
    ∧ (win0_3.index t 0 = t.val ∧ win0_3.index t 1 = 0) :=
  (by decide +kernel : ∀ t : Fin grid0.N, _)

/-- The blocks of the weights' windows: the first layer's, at every point. -/
theorem idxw : ∀ t : Fin cfg0.N,
    (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0 ∧ win0_10.index t 2 = 0)
    ∧ (win0_11.index t 0 = 0 ∧ win0_11.index t 1 = 0 ∧ win0_11.index t 2 = 0)
    ∧ (win0_12.index t 0 = 0 ∧ win0_12.index t 1 = 0 ∧ win0_12.index t 2 = 0) :=
  (by decide +kernel : ∀ t : Fin grid0.N, _)

/-- The sequence a point's tile is of, and a row of the tile in it. -/
def bOf (t : Fin cfg0.N) : Fin 8 := ⟨t.val / 4, by have := lt_of_lt_of_eq t.isLt N_0; omega⟩
def sOf (t : Fin cfg0.N) (r : Fin 512) : Fin 2048 := ⟨t.val % 4 * 512 + r.val, by omega⟩

theorem blk0 (c : Dev nD) (t : Fin cfg0.N) (r : Fin 512) (d : Fin 1024) : iblk m c 0 t (ix2 r d) = m ((c : Thread nD τ).loc main_arg0) (ix3 (bOf t) (sOf t r) d) := by
  have hN := lt_of_lt_of_eq t.isLt N_0
  unfold bOf sOf
  blk_simp [iblk, V, idx t]
  entry_read
  pointwise
  blk_ext [idx t]
  all_goals omega

theorem blk1 (c : Dev nD) (t : Fin cfg0.N) (r : Fin 512) (d : Fin 512) : iblk m c 1 t (ix2 r d) = m ((c : Thread nD τ).loc main_arg1) (ix3 (bOf t) (sOf t r) d) := by
  have hN := lt_of_lt_of_eq t.isLt N_0
  unfold bOf sOf
  blk_simp [iblk, V, idx t]
  entry_read
  pointwise
  blk_ext [idx t]
  all_goals omega

theorem blk2 (c : Dev nD) (t : Fin cfg0.N) (k : Fin 4) (r : Fin 512) (j : Fin 64) : iblk m c 2 t (ix3 k r j) = m ((c : Thread nD τ).loc main_arg2) (ix3 (bOf t) (sOf t r) ⟨k.val * 64 + j.val, by omega⟩) := by
  have hN := lt_of_lt_of_eq t.isLt N_0
  unfold bOf sOf
  blk_simp [iblk, V, idx t]
  entry_read
  pointwise
  blk_ext [idx t]
  all_goals omega

theorem blk3 (c : Dev nD) (t : Fin cfg0.N) (r : Fin 512) (d : Fin 256) : iblk m c 3 t (ix2 r d) = m ((c : Thread nD τ).loc main_arg3) (ix3 (bOf t) (sOf t r) d) := by
  have hN := lt_of_lt_of_eq t.isLt N_0
  unfold bOf sOf
  blk_simp [iblk, V, idx t]
  entry_read
  pointwise
  blk_ext [idx t]
  all_goals omega

theorem blk4 (c : Dev nD) (t : Fin cfg0.N) (d : Fin 256) : iblk m c 4 t (ix3 0 0 d) = m ((c : Thread nD τ).loc main_arg4) (ix2 0 d) := by
  have hN := lt_of_lt_of_eq t.isLt N_0
  blk_simp [iblk, V, idxw t]
  entry_read
  pointwise
  blk_ext [idxw t]
  all_goals omega

theorem blk5 (c : Dev nD) (t : Fin cfg0.N) (k e : Fin 1024) : iblk m c 5 t (ix3 0 k e) = m ((c : Thread nD τ).loc main_arg5) (ix3 0 k e) := by
  have hN := lt_of_lt_of_eq t.isLt N_0
  blk_simp [iblk, V, idxw t]
  entry_read
  pointwise
  blk_ext [idxw t]
  all_goals omega

theorem blk6 (c : Dev nD) (t : Fin cfg0.N) (d : Fin 1024) : iblk m c 6 t (ix3 0 0 d) = m ((c : Thread nD τ).loc main_arg6) (ix2 0 d) := by
  have hN := lt_of_lt_of_eq t.isLt N_0
  blk_simp [iblk, V, idxw t]
  entry_read
  pointwise
  blk_ext [idxw t]
  all_goals omega

theorem blk7 (c : Dev nD) (t : Fin cfg0.N) (d : Fin 1024) : iblk m c 7 t (ix3 0 0 d) = m ((c : Thread nD τ).loc main_arg7) (ix2 0 d) := by
  have hN := lt_of_lt_of_eq t.isLt N_0
  blk_simp [iblk, V, idxw t]
  entry_read
  pointwise
  blk_ext [idxw t]
  all_goals omega

theorem blk8 (c : Dev nD) (t : Fin cfg0.N) (k : Fin 1024) (e : Fin 5632) : iblk m c 8 t (ix3 0 k e) = m ((c : Thread nD τ).loc main_arg8) (ix3 0 k e) := by
  have hN := lt_of_lt_of_eq t.isLt N_0
  blk_simp [iblk, V, idxw t]
  entry_read
  pointwise
  blk_ext [idxw t]
  all_goals omega

theorem blk9 (c : Dev nD) (t : Fin cfg0.N) (k : Fin 3) (e : Fin 5632) : iblk m c 9 t (ix3 0 k e) = m ((c : Thread nD τ).loc main_arg9) (ix3 0 k e) := by
  have hN := lt_of_lt_of_eq t.isLt N_0
  blk_ext! [iblk, V, idxw t]
  all_goals omega

theorem blk10 (c : Dev nD) (t : Fin cfg0.N) (d : Fin 5632) : iblk m c 10 t (ix3 0 0 d) = m ((c : Thread nD τ).loc main_arg10) (ix2 0 d) := by
  have hN := lt_of_lt_of_eq t.isLt N_0
  blk_simp [iblk, V, idxw t]
  entry_read
  pointwise
  blk_ext [idxw t]
  all_goals omega

theorem blk11 (c : Dev nD) (t : Fin cfg0.N) (k : Fin 2816) (e : Fin 1024) : iblk m c 11 t (ix3 0 k e) = m ((c : Thread nD τ).loc main_arg11) (ix3 0 k e) := by
  have hN := lt_of_lt_of_eq t.isLt N_0
  blk_simp [iblk, V, idxw t]
  entry_read
  pointwise
  blk_ext [idxw t]
  all_goals omega

theorem blk12 (c : Dev nD) (t : Fin cfg0.N) (d : Fin 1024) : iblk m c 12 t (ix3 0 0 d) = m ((c : Thread nD τ).loc main_arg12) (ix2 0 d) := by
  have hN := lt_of_lt_of_eq t.isLt N_0
  blk_simp [iblk, V, idxw t]
  entry_read
  pointwise
  blk_ext [idxw t]
  all_goals omega

end Cert.KernelIdeal.Out
-- ==== Proof.OutExt.lean ====
module

public import proofs.«01_k».proof.Proof.Gen.KernelIdeal.Frame
public import Idealize.ShloMosaic.Lib.Pipeline.ValueKit
public import Idealize.ShloMosaic.Lib.Pipeline.ReadBack

@[expose] public section
set_option maxRecDepth 16384
noncomputable section
namespace Cert.KernelIdeal.Out
open Cert.KernelIdeal Cert.KernelIdeal.Gen Idealize.ShloMosaic Idealize.ShloMosaic.TcCoe Idealize.SL.Sem

variable {F : FTy → Type} [FloatOps F] [Named F]

/-- Eight carried rows above the rows of a tile. -/
def EXT (u : S512x256.Idx → F .f32) (g : S8x256.Idx → F .f32) : Vec F S1x520x256 .f32 := fun j =>
  if h : (j 1).val < 8 then g (ix2 ⟨(j 1).val, h⟩ (j 2))
  else u (ix2 ⟨(j 1).val - 8, by have := (j 1).isLt; change (j 1).val < 520 at this; omega⟩ (j 2))

theorem canon_cons_at {s : Shape} {e : EltTy} (r : Rect s) (w : r.shape.Idx → Elt F e) (L : List (View.Piece (Elt F) s e)) (x : r.shape.Idx)
    (y : s.Idx) (hx : ∀ a, (y a).val = r.off a + r.stride a * (x a).val) : View.canon (⟨r, w⟩ :: L) y = w x := by
  rw [← r.emb_eq_of_coords x y hx]; exact View.canon_cons_emb r w L x

/-- The two stores that fill one slot of the extended tile, read back as a whole. -/
theorem ext_read {sig : RefSig} {κ : Kind} {sp : Space} (v : View sig κ sp S4x520x256 .f32) (k : ℕ)
    (p1 : ∀ a, (![k, 0, 0] : Fin 3 → ℕ) a + (![1, 520, 256] : Fin 3 → ℕ) a ≤ S4x520x256.size a)
    (p2 : ∀ a, (![8, 0] : Fin 2 → ℕ) a + (![512, 256] : Fin 2 → ℕ) a ≤ (![520, 256] : Fin 2 → ℕ) a)
    (p2' : ∀ a, (![0, 0] : Fin 2 → ℕ) a + (![8, 256] : Fin 2 → ℕ) a ≤ (![520, 256] : Fin 2 → ℕ) a)
    (h0 : (![1, 520, 256] : Fin 3 → ℕ) 0 = 1) (hs : ∀ i : Fin 2, (![1, 520, 256] : Fin 3 → ℕ) i.succ = (![520, 256] : Fin 2 → ℕ) i) (q q')
    (hR : ((Rect.unit (s := ⟨2, ![520, 256]⟩) ![8, 0] ![512, 256] p2).consLift ![1, 520, 256] h0 hs).shape.numel
      = (Rect.unit (s := ⟨2, ![520, 256]⟩) ![8, 0] ![512, 256] p2).shape.numel)
    (hR' : ((Rect.unit (s := ⟨2, ![520, 256]⟩) ![0, 0] ![8, 256] p2').consLift ![1, 520, 256] h0 hs).shape.numel
      = (Rect.unit (s := ⟨2, ![520, 256]⟩) ![0, 0] ![8, 256] p2').shape.numel)
    (u : S512x256.Idx → F .f32) (g : S8x256.Idx → F .f32) (L : List (View.Piece (Elt F) S4x520x256 .f32)) :
    v.readCov (Val := Elt F) (⟨(Rect.unit (s := S4x520x256) ![k, 0, 0] ![1, 520, 256] p1).within
        ((Rect.unit (s := ⟨2, ![520, 256]⟩) ![8, 0] ![512, 256] p2).consLift ![1, 520, 256] h0 hs) q, Rect.payAlong hR u⟩
      :: ⟨(Rect.unit (s := S4x520x256) ![k, 0, 0] ![1, 520, 256] p1).within
        ((Rect.unit (s := ⟨2, ![520, 256]⟩) ![0, 0] ![8, 256] p2').consLift ![1, 520, 256] h0 hs) q', Rect.payAlong hR' g⟩ :: L)
      (Rect.unit (s := S4x520x256) ![k, 0, 0] ![1, 520, 256] p1).toLoadRect = EXT u g := by
  rw [View.readCov_eq_canon']
  funext j
  have j0 : (j 0).val < 1 := (j 0).isLt
  have j1 : (j 1).val < 520 := (j 1).isLt
  have j2 : (j 2).val < 256 := (j 2).isLt
  by_cases h : (j 1).val < 8
  · rw [View.canon_cons_of_not_mem, EXT, dif_pos h]
    · refine canon_cons_at _ _ L (ix3 (n1 := 8) 0 ⟨(j 1).val, h⟩ ⟨(j 2).val, j2⟩) _ ?_ |>.trans ?_
      · intro a; fin_cases a
        · show k + 1 * (j 0).val = (k + 0) + 1 * 0; omega
        · show 0 + 1 * (j 1).val = (0 + 0) + 1 * (j 1).val; omega
        · show 0 + 1 * (j 2).val = (0 + 0) + 1 * (j 2).val; omega
      · exact Rect.payAlong_consLift _ _ _ _ _ _ _ _ fun i => by fin_cases i <;> rfl
    · refine Rect.not_mem_set_of_axis _ _ 1 8 512 rfl rfl rfl (.inl ?_)
      show 0 + 1 * (j 1).val < 8; omega
  · rw [EXT, dif_neg h]
    refine canon_cons_at _ _ _ (ix3 (n1 := 512) 0 ⟨(j 1).val - 8, by omega⟩ ⟨(j 2).val, j2⟩) _ ?_ |>.trans ?_
    · intro a; fin_cases a
      · show k + 1 * (j 0).val = (k + 0) + 1 * 0; omega
      · show 0 + 1 * (j 1).val = (0 + 8) + 1 * ((j 1).val - 8); omega
      · show 0 + 1 * (j 2).val = (0 + 0) + 1 * (j 2).val; omega
    · exact Rect.payAlong_consLift _ _ _ _ _ _ _ _ fun i => by fin_cases i <;> rfl
end Cert.KernelIdeal.Out
-- ==== Proof.OutVoc.lean ====
module

public import proofs.«01_k».proof.Proof.OutExt

@[expose] public section
set_option maxRecDepth 16384
noncomputable section
namespace Cert.KernelIdeal.Out
open Cert.KernelIdeal Cert.KernelIdeal.Gen Idealize.ShloMosaic Idealize.ShloMosaic.TcCoe Idealize.SL.Sem

variable {F : FTy → Type} [FloatOps F] [Named F]

/-- Head `k` of a tile. -/
def HD (x2 : Vec F S4x512x64 .bf16) (k : ℕ) (hk : k < 4) : Vec F S1x512x64 .bf16 :=
  View.ld x2 (Rect.unit ![k, 0, 0] S1x512x64.size (fun a => match a with | 0 => (by omega : k + 1 ≤ 4) | 1 => (by omega : 0 + 512 ≤ 512) | 2 => (by omega : 0 + 64 ≤ 64)))

/-- The tile after the first residual. -/
def X1 (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) : FVec F S512x1024 .f32 :=
  k0_pay7 (k0_pay2 (HD x2 0 (by decide)) (HD x2 1 (by decide)) (HD x2 2 (by decide)) (HD x2 3 (by decide))) (k0_pay3 (View.ld x1 (Rect.unit ![0, 0] S512x512.size (fun a => match a with | 0 => (by omega : 0 + 512 ≤ 512) | 1 => (by omega : 0 + 512 ≤ 512))))) (k0_pay4 (View.ld x4 (Rect.unit ![0, 0, 0] S1x1x256.size (fun a => match a with | 0 => (by omega : 0 + 1 ≤ 1) | 1 => (by omega : 0 + 1 ≤ 1) | 2 => (by omega : 0 + 256 ≤ 256))))) (k0_pay5 (HD x2 0 (by decide)) (HD x2 1 (by decide)) (HD x2 2 (by decide)) (HD x2 3 (by decide))) k0_pay6
    (View.ld x3 (Rect.unit ![0, 0] S512x256.size (fun a => match a with | 0 => (by omega : 0 + 512 ≤ 512) | 1 => (by omega : 0 + 256 ≤ 256)))) (View.ld x0 (Rect.unit ![0, 0] S512x1024.size (fun a => match a with | 0 => (by omega : 0 + 512 ≤ 512) | 1 => (by omega : 0 + 1024 ≤ 1024)))) (View.ld x5 (Rect.unit ![0, 0, 0] S1x1024x1024.size (fun a => match a with | 0 => (by omega : 0 + 1 ≤ 1) | 1 => (by omega : 0 + 1024 ≤ 1024) | 2 => (by omega : 0 + 1024 ≤ 1024)))) (View.ld x6 (Rect.unit ![0, 0, 0] S1x1x1024.size (fun a => match a with | 0 => (by omega : 0 + 1 ≤ 1) | 1 => (by omega : 0 + 1 ≤ 1) | 2 => (by omega : 0 + 1024 ≤ 1024))))

/-- The tile after the norm before the feed-forward. -/
def HN (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) : FVec F S512x1024 .bf16 :=
  k0_pay10 (X1 x0 x1 x2 x3 x4 x5 x6) (k0_pay8 (View.ld x7 (Rect.unit ![0, 0, 0] S1x1x1024.size (fun a => match a with | 0 => (by omega : 0 + 1 ≤ 1) | 1 => (by omega : 0 + 1 ≤ 1) | 2 => (by omega : 0 + 1024 ≤ 1024)))))
   (k0_pay9 (k0_pay2 (HD x2 0 (by decide)) (HD x2 1 (by decide)) (HD x2 2 (by decide)) (HD x2 3 (by decide))) (k0_pay3 (View.ld x1 (Rect.unit ![0, 0] S512x512.size (fun a => match a with | 0 => (by omega : 0 + 512 ≤ 512) | 1 => (by omega : 0 + 512 ≤ 512))))) (k0_pay4 (View.ld x4 (Rect.unit ![0, 0, 0] S1x1x256.size (fun a => match a with | 0 => (by omega : 0 + 1 ≤ 1) | 1 => (by omega : 0 + 1 ≤ 1) | 2 => (by omega : 0 + 256 ≤ 256))))) (k0_pay5 (HD x2 0 (by decide)) (HD x2 1 (by decide)) (HD x2 2 (by decide)) (HD x2 3 (by decide))) k0_pay6
    (View.ld x3 (Rect.unit ![0, 0] S512x256.size (fun a => match a with | 0 => (by omega : 0 + 512 ≤ 512) | 1 => (by omega : 0 + 256 ≤ 256)))) (View.ld x0 (Rect.unit ![0, 0] S512x1024.size (fun a => match a with | 0 => (by omega : 0 + 512 ≤ 512) | 1 => (by omega : 0 + 1024 ≤ 1024)))) (View.ld x5 (Rect.unit ![0, 0, 0] S1x1024x1024.size (fun a => match a with | 0 => (by omega : 0 + 1 ≤ 1) | 1 => (by omega : 0 + 1024 ≤ 1024) | 2 => (by omega : 0 + 1024 ≤ 1024)))) (View.ld x6 (Rect.unit ![0, 0, 0] S1x1x1024.size (fun a => match a with | 0 => (by omega : 0 + 1 ≤ 1) | 1 => (by omega : 0 + 1 ≤ 1) | 2 => (by omega : 0 + 1024 ≤ 1024)))))

/-- A strip of 256 columns of the up projection, from column `o`. -/
def UP (h : FVec F S512x1024 .bf16) (x8 : Vec F S1x1024x5632 .bf16) (o : ℕ) (ho : o + 256 ≤ 5632) : FVec F S512x256 .f32 :=
  k0_pay12 h (View.ld x8 (Rect.unit ![0, 0, o] S1x1024x256.size (fun a => match a with | 0 => (by omega : 0 + 1 ≤ 1) | 1 => (by omega : 0 + 1024 ≤ 1024) | 2 => (by omega : o + 256 ≤ 5632))))

/-- The eight rows carried for strip `k`. -/
def HAL (s : Vec F S22x8x256 .f32) (k : ℕ) (hk : k < 22) : FVec F S8x256 .f32 :=
  shapeCast S8x256 (shapeCast S8x256 (View.ld s (Rect.unit ![k, 0, 0] S1x8x256.size (fun a => match a with | 0 => (by omega : k + 1 ≤ 22) | 1 => (by omega : 0 + 8 ≤ 8) | 2 => (by omega : 0 + 256 ≤ 256)))) shapeCasts_S1x8x256_S8x256) shapeCasts_S8x256_S8x256

/-- The causal convolution of an extended strip. -/
def CONV (e : Vec F S1x520x256 .f32) (x9 : Vec F S1x3x5632 .f32) (x10 : Vec F S1x1x5632 .f32) (o : ℕ) (ho : o + 256 ≤ 5632) : FVec F S512x256 .f32 :=
  k0_pay24 (k0_pay22 e (View.ld x9 (Rect.unit ![0, 0, o] S1x3x256.size (fun a => match a with | 0 => (by omega : 0 + 1 ≤ 1) | 1 => (by omega : 0 + 3 ≤ 3) | 2 => (by omega : o + 256 ≤ 5632)))) (View.ld x10 (Rect.unit ![0, 0, o] S1x1x256.size (fun a => match a with | 0 => (by omega : 0 + 1 ≤ 1) | 1 => (by omega : 0 + 1 ≤ 1) | 2 => (by omega : o + 256 ≤ 5632))))) (k0_pay23 e (View.ld x9 (Rect.unit ![0, 0, o] S1x3x256.size (fun a => match a with | 0 => (by omega : 0 + 1 ≤ 1) | 1 => (by omega : 0 + 3 ≤ 3) | 2 => (by omega : o + 256 ≤ 5632)))))

/-- Strip `k`, from column `o`, after the convolution. -/
def ST (h : FVec F S512x1024 .bf16) (x8 : Vec F S1x1024x5632 .bf16) (x9 : Vec F S1x3x5632 .f32) (x10 : Vec F S1x1x5632 .f32) (s : Vec F S22x8x256 .f32) (k : ℕ) (hk : k < 22) (o : ℕ) (ho : o + 256 ≤ 5632) : FVec F S512x256 .f32 :=
  CONV (EXT (shapeCast S512x256 (UP h x8 o ho) shapeCasts_S512x256_S512x256) (HAL s k hk)) x9 x10 o ho

/-- The gated product of a pair of strips. -/
def GATED (g u : FVec F S512x256 .f32) : FVec F S512x256 .bf16 :=
  truncf .bf16 (mulf (divf g (addf (broadcast S512x256 (Scalar.ofBits .f32 0x3F800000#32)) (exp2 (mulf g (addf (mulf (mulf g g) (broadcast S512x256 (Named.named κ "gelu_ka" 0xBDD2D3E8#32))) (broadcast S512x256 (Named.named κ "gelu_k" 0xC0135761#32)))))))
    u) bitsLt_bf16_f32

/-- The gated product of chunk `c`. -/
def ACTC (h : FVec F S512x1024 .bf16) (x8 : Vec F S1x1024x5632 .bf16) (x9 : Vec F S1x3x5632 .f32) (x10 : Vec F S1x1x5632 .f32) (s : Vec F S22x8x256 .f32) (c : ℕ) (hc : c < 11) : FVec F S512x256 .bf16 :=
  shapeCast S512x256 (shapeCast S1x512x256 (GATED (ST h x8 x9 x10 s (2 * c) (by omega) (c * 256) (by omega)) (ST h x8 x9 x10 s (2 * c + 1) (by omega) (2816 + c * 256) (by omega)))
    shapeCasts_S512x256_S1x512x256) shapeCasts_S1x512x256_S512x256

/-- Chunk `c` of the down projection. -/
def DN (h : FVec F S512x1024 .bf16) (x8 : Vec F S1x1024x5632 .bf16) (x9 : Vec F S1x3x5632 .f32) (x10 : Vec F S1x1x5632 .f32) (s : Vec F S22x8x256 .f32) (x11 : Vec F S1x2816x1024 .bf16) (c : ℕ) (hc : c < 11) : FVec F S512x1024 .f32 :=
  matmul dot_S512x256_S256x1024_S512x1024_1_0_0_1_n_n none (ACTC h x8 x9 x10 s c hc)
    (shapeCast S256x1024 (View.ld x11 (Rect.unit ![0, c * 256, 0] S1x256x1024.size (fun a => match a with | 0 => (by omega : 0 + 1 ≤ 1) | 1 => (by omega : c * 256 + 256 ≤ 2816) | 2 => (by omega : 0 + 1024 ≤ 1024)))) shapeCasts_S1x256x1024_S256x1024) (constant S512x1024 .f32 0x00000000#32)

/-- The first `n + 1` chunks of the down projection. -/
def FF (h : FVec F S512x1024 .bf16) (x8 : Vec F S1x1024x5632 .bf16) (x9 : Vec F S1x3x5632 .f32) (x10 : Vec F S1x1x5632 .f32) (s : Vec F S22x8x256 .f32) (x11 : Vec F S1x2816x1024 .bf16) : (n : ℕ) → n < 11 → FVec F S512x1024 .f32
  | 0, hn => DN h x8 x9 x10 s x11 0 hn
  | n + 1, hn => addf (FF h x8 x9 x10 s x11 n (by omega)) (DN h x8 x9 x10 s x11 (n + 1) hn)

/-- The second residual. -/
def RES (x1 f : FVec F S512x1024 .f32) (x12 : Vec F S1x1x1024 .f32) : FVec F S512x1024 .f32 :=
  addf x1 (mulf (mulf f (broadcastTo S512x1024 (rsqrt (addf (divf (shapeCast S512x1 (multiReduction .add [1] S512 (mulf f f) 0x00000000#32 reduces_S512x1024_S512 (.inl rfl) rfl) shapeCasts_S512_S512x1)
    (broadcast S512x1 (Scalar.ofBits .f32 0x44800000#32))) (broadcast S512x1 (Scalar.ofBits .f32 0x358637BD#32)))) broadcasts_S512x1_S512x1024))
    (broadcastTo S512x1024 (shapeCast S1x1024 (View.ld x12 (Rect.unit ![0, 0, 0] S1x1x1024.size (fun a => match a with | 0 => (by omega : 0 + 1 ≤ 1) | 1 => (by omega : 0 + 1 ≤ 1) | 2 => (by omega : 0 + 1024 ≤ 1024)))) shapeCasts_S1x1x1024_S1x1024) broadcasts_S1x1024_S512x1024))

/-- What a tile leaves in the result, from the carried rows and the blocks. -/
def OUTV (s : Vec F S22x8x256 .f32) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) : FVec F S512x1024 .f32 :=
  RES (X1 x0 x1 x2 x3 x4 x5 x6) (FF (HN x0 x1 x2 x3 x4 x5 x6 x7) x8 x9 x10 s x11 10 (by decide)) x12

/-- The column strip `k` starts at. -/
def colOf (k : ℕ) : ℕ := if k % 2 = 0 then k / 2 * 256 else 2816 + k / 2 * 256

theorem colOf_le {k : ℕ} (hk : k < 22) : colOf k + 256 ≤ 5632 := by unfold colOf; split <;> omega

/-- What a tile leaves in the carried rows. -/
def SOUTV (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) : Vec F S22x8x256 .f32 := fun j =>
  k0_pay19 (UP (HN x0 x1 x2 x3 x4 x5 x6 x7) x8 (colOf (j 0).val) (colOf_le (j 0).isLt)) (ix3 0 (j 1) (j 2))

/-- The stores of the first `n` strips' last rows, the newest first, over older stores. -/
def PLN (T : (k : ℕ) → k < 22 → S1x8x256.Idx → F .f32) (M : List (View.Piece (Elt F) S22x8x256 .f32)) : (n : ℕ) → n ≤ 22 → List (View.Piece (Elt F) S22x8x256 .f32)
  | 0, _ => M
  | n + 1, hn => ⟨Rect.unit ![n, 0, 0] S1x8x256.size (fun a => match a with | 0 => (by omega : n + 1 ≤ 22) | 1 => (by omega : 0 + 8 ≤ 8) | 2 => (by omega : 0 + 256 ≤ 256)),
      T n hn⟩ :: PLN T M n (by omega)

theorem canon_PLN (T : (k : ℕ) → k < 22 → S1x8x256.Idx → F .f32) (M : List (View.Piece (Elt F) S22x8x256 .f32)) (y : S22x8x256.Idx) :
    ∀ (n : ℕ) (hn : n ≤ 22), (y 0).val < n → View.canon (PLN T M n hn) y = T (y 0).val (y 0).isLt (ix3 0 (y 1) (y 2))
  | 0, _, hy => absurd hy (Nat.not_lt_zero _)
  | n + 1, hn, hy => by
    rw [PLN]
    rcases Nat.lt_succ_iff_lt_or_eq.mp hy with hlt | heq
    · rw [View.canon_cons_of_not_mem]
      · exact canon_PLN T M y n _ hlt
      · exact Rect.not_mem_set_of_axis _ _ 0 n 1 rfl rfl rfl (.inl hlt)
    · have e : y = (Rect.unit (s := S22x8x256) ![n, 0, 0] S1x8x256.size (fun a => match a with | 0 => (by omega : n + 1 ≤ 22) | 1 => (by omega : 0 + 8 ≤ 8) | 2 => (by omega : 0 + 256 ≤ 256))).emb (ix3 0 (y 1) (y 2)) := by
        funext a; apply Fin.ext; fin_cases a
        · show (y 0).val = n + 1 * 0; omega
        · show (y 1).val = 0 + 1 * (y 1).val; omega
        · show (y 2).val = 0 + 1 * (y 2).val; omega
      refine (congrArg _ e).trans ((View.canon_cons_emb _ _ _ _).trans ?_)
      subst heq; rfl

end Cert.KernelIdeal.Out
-- ==== Proof.OutVal.lean ====
module

public import proofs.«01_k».proof.Proof.OutVoc

@[expose] public section
set_option maxRecDepth 16384
noncomputable section
namespace Cert.KernelIdeal.Out
open Cert.KernelIdeal Cert.KernelIdeal.Gen Idealize.ShloMosaic Idealize.ShloMosaic.TcCoe Idealize.SL.Sem

variable {F : FTy → Type} [FloatOps F] [Named F]

set_option maxHeartbeats 8000000 in
theorem out0_A_aux (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) :
    out0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = OUTV k0_pay11 (View.read (Elt F) a1.view (h1.unread x0)) (View.read (Elt F) a2.view (h2.unread x1)) (View.read (Elt F) a3.view (h3.unread x2)) (View.read (Elt F) a4.view (h4.unread x3)) (View.read (Elt F) a5.view (h5.unread x4)) (View.read (Elt F) a6.view (h6.unread x5)) (View.read (Elt F) a7.view (h7.unread x6)) (View.read (Elt F) a8.view (h8.unread x7)) (View.read (Elt F) a9.view (h9.unread x8)) (View.read (Elt F) a10.view (h10.unread x9)) (View.read (Elt F) a11.view (h11.unread x10)) (View.read (Elt F) a12.view (h12.unread x11)) (View.read (Elt F) a13.view (h13.unread x12)) := by
  frame_open
  simp (disch := decide) only [View.read_writes_junk_eq_canon]
  simp (disch := decide) only [↓ View.readCov_skip, ↓ View.readCov_cons_toLoadRect, ↓ View.readCov_fill]
  simp only [ext_read]
  rw [View.canon_cons_unit_lit' _ _ _ (by decide)]
  simp only [OUTV, SOUTV, RES, FF, DN, ACTC, GATED, ST, CONV, HAL, UP, HN, X1, HD, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
  sl_kernel_rfl

theorem out0_A (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) :
    out0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = OUTV k0_pay11 x0 x1 x2 x3 x4 x5 x6 x7 x8 x9 x10 x11 x12 := by
  have h := out0_A_aux c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12
  rw [h1.read_unread, h2.read_unread, h3.read_unread, h4.read_unread, h5.read_unread, h6.read_unread, h7.read_unread, h8.read_unread, h9.read_unread, h10.read_unread, h11.read_unread, h12.read_unread, h13.read_unread] at h
  exact h

set_option maxHeartbeats 8000000 in
theorem out0_B_aux (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : ¬ cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) (xs3 : Vec F S22x8x256 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 xs3 = OUTV (View.read (Elt F) a18.view (h18.unread xs3)) (View.read (Elt F) a1.view (h1.unread x0)) (View.read (Elt F) a2.view (h2.unread x1)) (View.read (Elt F) a3.view (h3.unread x2)) (View.read (Elt F) a4.view (h4.unread x3)) (View.read (Elt F) a5.view (h5.unread x4)) (View.read (Elt F) a6.view (h6.unread x5)) (View.read (Elt F) a7.view (h7.unread x6)) (View.read (Elt F) a8.view (h8.unread x7)) (View.read (Elt F) a9.view (h9.unread x8)) (View.read (Elt F) a10.view (h10.unread x9)) (View.read (Elt F) a11.view (h11.unread x10)) (View.read (Elt F) a12.view (h12.unread x11)) (View.read (Elt F) a13.view (h13.unread x12)) := by
  frame_open
  simp (disch := decide) only [View.read_writes_junk_eq_canon]
  simp (disch := decide) only [↓ View.readCov_skip, ↓ View.readCov_cons_toLoadRect, ↓ View.readCov_fill]
  simp only [ext_read]
  rw [View.canon_cons_unit_lit' _ _ _ (by decide)]
  simp only [OUTV, SOUTV, RES, FF, DN, ACTC, GATED, ST, CONV, HAL, UP, HN, X1, HD, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
  sl_kernel_rfl

theorem out0_B (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : ¬ cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) (xs3 : Vec F S22x8x256 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 xs3 = OUTV xs3 x0 x1 x2 x3 x4 x5 x6 x7 x8 x9 x10 x11 x12 := by
  have h := out0_B_aux c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 xs3
  rw [h1.read_unread, h2.read_unread, h3.read_unread, h4.read_unread, h5.read_unread, h6.read_unread, h7.read_unread, h8.read_unread, h9.read_unread, h10.read_unread, h11.read_unread, h12.read_unread, h13.read_unread, h18.read_unread] at h
  exact h

set_option maxHeartbeats 8000000 in
theorem sout0_A_aux (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) :
    sout0_A_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = View.canon (PLN (fun k hk => k0_pay19 (UP (HN (View.read (Elt F) a1.view (h1.unread x0)) (View.read (Elt F) a2.view (h2.unread x1)) (View.read (Elt F) a3.view (h3.unread x2)) (View.read (Elt F) a4.view (h4.unread x3)) (View.read (Elt F) a5.view (h5.unread x4)) (View.read (Elt F) a6.view (h6.unread x5)) (View.read (Elt F) a7.view (h7.unread x6)) (View.read (Elt F) a8.view (h8.unread x7))) (View.read (Elt F) a9.view (h9.unread x8)) (colOf k) (colOf_le hk))) [⟨Rect.unit ![0, 0, 0] S22x8x256.size inb_S22x8x256_S22x8x256_0_0_0, k0_pay11⟩] 22 (Nat.le_refl _)) := by
  frame_open
  simp (disch := decide) only [View.read_writes_junk_eq_canon]
  simp (disch := decide) only [↓ View.readCov_skip, ↓ View.readCov_cons_toLoadRect, ↓ View.readCov_fill]
  simp only [PLN, UP, HN, X1, HD, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
  sl_kernel_rfl

theorem sout0_A (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) :
    sout0_A_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 = SOUTV x0 x1 x2 x3 x4 x5 x6 x7 x8 x9 x10 x11 x12 := by
  have h := sout0_A_aux c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12
  rw [h1.read_unread, h2.read_unread, h3.read_unread, h4.read_unread, h5.read_unread, h6.read_unread, h7.read_unread, h8.read_unread, h9.read_unread] at h
  rw [h]
  funext y
  exact canon_PLN _ _ y 22 _ (y 0).isLt

set_option maxHeartbeats 8000000 in
theorem sout0_B_aux (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : ¬ cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) (xs3 : Vec F S22x8x256 .f32) :
    sout0_B_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 xs3 = View.canon (PLN (fun k hk => k0_pay19 (UP (HN (View.read (Elt F) a1.view (h1.unread x0)) (View.read (Elt F) a2.view (h2.unread x1)) (View.read (Elt F) a3.view (h3.unread x2)) (View.read (Elt F) a4.view (h4.unread x3)) (View.read (Elt F) a5.view (h5.unread x4)) (View.read (Elt F) a6.view (h6.unread x5)) (View.read (Elt F) a7.view (h7.unread x6)) (View.read (Elt F) a8.view (h8.unread x7))) (View.read (Elt F) a9.view (h9.unread x8)) (colOf k) (colOf_le hk))) [] 22 (Nat.le_refl _)) := by
  frame_open
  simp (disch := decide) only [View.read_writes_junk_eq_canon]
  simp (disch := decide) only [↓ View.readCov_skip, ↓ View.readCov_cons_toLoadRect, ↓ View.readCov_fill]
  simp only [PLN, UP, HN, X1, HD, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187]
  sl_kernel_rfl

theorem sout0_B (c : Dev nD) (i : grid0.Coords) (a1 : Memref sig .tc .vmem S512x1024 .f32) (h1 : a1.IsWhole) (a2 : Memref sig .tc .vmem S512x512 .bf16) (h2 : a2.IsWhole) (a3 : Memref sig .tc .vmem S4x512x64 .bf16) (h3 : a3.IsWhole) (a4 : Memref sig .tc .vmem S512x256 .bf16) (h4 : a4.IsWhole) (a5 : Memref sig .tc .vmem S1x1x256 .f32) (h5 : a5.IsWhole) (a6 : Memref sig .tc .vmem S1x1024x1024 .bf16) (h6 : a6.IsWhole) (a7 : Memref sig .tc .vmem S1x1x1024 .f32) (h7 : a7.IsWhole) (a8 : Memref sig .tc .vmem S1x1x1024 .f32) (h8 : a8.IsWhole) (a9 : Memref sig .tc .vmem S1x1024x5632 .bf16) (h9 : a9.IsWhole) (a10 : Memref sig .tc .vmem S1x3x5632 .f32) (h10 : a10.IsWhole) (a11 : Memref sig .tc .vmem S1x1x5632 .f32) (h11 : a11.IsWhole) (a12 : Memref sig .tc .vmem S1x2816x1024 .bf16) (h12 : a12.IsWhole) (a13 : Memref sig .tc .vmem S1x1x1024 .f32) (h13 : a13.IsWhole) (a14 : Memref sig .tc .vmem S512x1024 .f32) (h14 : a14.IsWhole) (a15 : Memref sig .tc .vmem S512x1024 .bf16) (h15 : a15.IsWhole) (a16 : Memref sig .tc .vmem S11x512x256 .bf16) (h16 : a16.IsWhole) (a17 : Memref sig .tc .vmem S4x520x256 .f32) (h17 : a17.IsWhole) (a18 : Memref sig .tc .vmem S22x8x256 .f32) (h18 : a18.IsWhole) (hc : ¬ cond0_0 i) (x0 : Vec F S512x1024 .f32) (x1 : Vec F S512x512 .bf16) (x2 : Vec F S4x512x64 .bf16) (x3 : Vec F S512x256 .bf16) (x4 : Vec F S1x1x256 .f32) (x5 : Vec F S1x1024x1024 .bf16) (x6 : Vec F S1x1x1024 .f32) (x7 : Vec F S1x1x1024 .f32) (x8 : Vec F S1x1024x5632 .bf16) (x9 : Vec F S1x3x5632 .f32) (x10 : Vec F S1x1x5632 .f32) (x11 : Vec F S1x2816x1024 .bf16) (x12 : Vec F S1x1x1024 .f32) (xs3 : Vec F S22x8x256 .f32) :
    sout0_B_3 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 xs3 = SOUTV x0 x1 x2 x3 x4 x5 x6 x7 x8 x9 x10 x11 x12 := by
  have h := sout0_B_aux c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 x11 x12 xs3
  rw [h1.read_unread, h2.read_unread, h3.read_unread, h4.read_unread, h5.read_unread, h6.read_unread, h7.read_unread, h8.read_unread, h9.read_unread] at h
  rw [h]
  funext y
  exact canon_PLN _ _ y 22 _ (y 0).isLt

end Cert.KernelIdeal.Out
-- ==== Proof.Model.lean ====
module

public import Idealize.ShloMosaic.Lib.Pipeline.ValueKit

@[expose] public section
noncomputable section
namespace Cert.Model
open Idealize.ShloMosaic

/-- The small number under the norms' square roots. -/
def eps : EReal := Ideal.ofBits FTy.f32 0x358637BD#32
/-- The widths the norms divide by. -/
def c256 : EReal := Ideal.ofBits FTy.f32 0x43800000#32
def c1024 : EReal := Ideal.ofBits FTy.f32 0x44800000#32

/-- A row divided by its root mean square, times a gain. -/
def rms {n : ℕ} (D : EReal) (v g : Fin n → EReal) (j : Fin n) : EReal :=
  v j * Ideal.rsqrt (Ideal.div (∑ x, v x * v x) D + eps) * g j

/-- The three mixers' rows side by side, the middle one normed. -/
def mix (ym : Fin 512 → EReal) (ys yp g : Fin 256 → EReal) (x : Fin 1024) : EReal :=
  if h : x.val < 512 then ym ⟨x.val, h⟩
  else if h' : x.val - 512 < 256 then rms c256 ys g ⟨x.val - 512, h'⟩
  else yp ⟨x.val - 512 - 256, by omega⟩

/-- A row after the output projection, its norm and the first residual. -/
def rx1 (x : Fin 1024 → EReal) (ym : Fin 512 → EReal) (ys yp g : Fin 256 → EReal) (wo : Fin 1024 → Fin 1024 → EReal)
    (pmg : Fin 1024 → EReal) (d : Fin 1024) : EReal :=
  x d + rms c1024 (fun e => ∑ k, mix ym ys yp g k * wo k e) pmg d

/-- One entry of the up projection of a normed row. -/
def rup (x1 pfg : Fin 1024 → EReal) (wu : Fin 1024 → EReal) : EReal := ∑ k, rms c1024 x1 pfg k * wu k

/-- Three taps and a bias: `u0` is the row itself, `u1` and `u2` the one and two before it. -/
def conv (b w0 w1 w2 u0 u1 u2 : EReal) : EReal := b + w2 * u0 + w1 * u1 + w0 * u2

/-- A row after the feed-forward, its norm and the second residual. -/
def rout (x1 f pog : Fin 1024 → EReal) (d : Fin 1024) : EReal := x1 d + rms c1024 f pog d

end Cert.Model
-- ==== Proof.Kern.lean ====
module

public import proofs.«01_k».proof.Proof.OutVoc
public import proofs.«01_k».proof.Proof.Model

@[expose] public section
set_option maxRecDepth 16384
noncomputable section
namespace Cert.KernelIdeal.Out
open Cert.KernelIdeal Cert.KernelIdeal.Gen Idealize.ShloMosaic Idealize.ShloMosaic.TcCoe Idealize.SL.Sem Cert.Model

theorem ld2 {n m : ℕ} {e : EltTy} (x : Vec Ideal ⟨2, ![n, m]⟩ e) (h) : View.ld (Val := Elt Ideal) x (Rect.unit (s := ⟨2, ![n, m]⟩) ![0, 0] ![n, m] h) = x := by
  funext i
  refine View.ld_unit_apply_of _ _ _ _ _ _ ?_
  intro a; fin_cases a <;> simp

theorem ld3 {n m k : ℕ} {e : EltTy} (x : Vec Ideal ⟨3, ![n, m, k]⟩ e) (h) : View.ld (Val := Elt Ideal) x (Rect.unit (s := ⟨3, ![n, m, k]⟩) ![0, 0, 0] ![n, m, k] h) = x := by
  funext i
  refine View.ld_unit_apply_of _ _ _ _ _ _ ?_
  intro a; fin_cases a <;> simp

theorem hd_at (x2 : Vec Ideal S4x512x64 .bf16) (k : ℕ) (hk : k < 4) (r : Fin 512) (j : Fin 64) : HD x2 k hk (ix3 0 r j) = x2 (ix3 ⟨k, hk⟩ r j) := by
  unfold HD
  refine View.ld_unit_apply_of _ _ _ _ _ _ ?_
  intro a; fin_cases a <;> simp

theorem ysb_at (x2 : Vec Ideal S4x512x64 .bf16) (r : Fin 512) (j : Fin 256) :
    k0_pay2 (HD x2 0 (by decide)) (HD x2 1 (by decide)) (HD x2 2 (by decide)) (HD x2 3 (by decide)) (ix2 r j) = x2 (ix3 ⟨j.val / 64, by omega⟩ r ⟨j.val % 64, by omega⟩) := by
  pointwise [k0_pay2]
  simp only [hd_at]
  split
  · congr 2 <;> apply Fin.ext <;> show _ = _ <;> simp <;> omega
  split
  · congr 2 <;> apply Fin.ext <;> show _ = _ <;> simp <;> omega
  split
  · congr 2 <;> apply Fin.ext <;> show _ = _ <;> simp <;> omega
  · congr 2 <;> apply Fin.ext <;> show _ = _ <;> simp <;> omega

/-- The middle mixer's row in a tile. -/
def ysr (x2 : Vec Ideal S4x512x64 .bf16) (r : Fin 512) (j : Fin 256) : EReal := x2 (ix3 ⟨j.val / 64, by omega⟩ r ⟨j.val % 64, by omega⟩)

theorem ysbs_at (x2 : Vec Ideal S4x512x64 .bf16) (r : Fin 512) :
    k0_pay5 (HD x2 0 (by decide)) (HD x2 1 (by decide)) (HD x2 2 (by decide)) (HD x2 3 (by decide)) (ix2 r 0) = Ideal.div (∑ j : Fin 256, ysr x2 r j * ysr x2 r j) c256 := by
  pointwise [k0_pay5]
  simp only [ysb_at]
  rfl

theorem pay7_at (y : FVec Ideal S512x256 .f32) (q : FVec Ideal S512x1 .f32) (x0 : Vec Ideal S512x1024 .f32) (x1 : Vec Ideal S512x512 .bf16) (x3 : Vec Ideal S512x256 .bf16) (x4 : Vec Ideal S1x1x256 .f32) (x5 : Vec Ideal S1x1024x1024 .bf16) (x6 : Vec Ideal S1x1x1024 .f32) (r : Fin 512) (d : Fin 1024)
    (hq : q (ix2 r 0) = Ideal.div (∑ j : Fin 256, y (ix2 r j) * y (ix2 r j)) c256) :
    k0_pay7 y (k0_pay3 x1) (k0_pay4 x4) q k0_pay6 x3 x0 x5 x6 (ix2 r d)
      = rx1 (fun d => x0 (ix2 r d)) (fun j => x1 (ix2 r j)) (fun j => y (ix2 r j)) (fun j => x3 (ix2 r j)) (fun j => x4 (ix3 0 0 j))
        (fun k e => x5 (ix3 0 k e)) (fun d => x6 (ix3 0 0 d)) d := by
  pointwise [k0_pay7, k0_pay3, k0_pay4, k0_pay6]
  rw [hq]
  rfl

/-- The rows of a tile after the first residual. -/
def x1r (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (r : Fin 512) : Fin 1024 → EReal :=
  rx1 (fun d => x0 (ix2 r d)) (fun j => x1 (ix2 r j)) (ysr x2 r) (fun j => x3 (ix2 r j)) (fun j => x4 (ix3 0 0 j))
    (fun k e => x5 (ix3 0 k e)) (fun d => x6 (ix3 0 0 d))

theorem X1_at (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (r : Fin 512) (d : Fin 1024) :
    X1 x0 x1 x2 x3 x4 x5 x6 (ix2 r d) = x1r x0 x1 x2 x3 x4 x5 x6 r d := by
  unfold X1
  rw [ld2, ld2, ld2, ld3, ld3, ld3]
  rw [pay7_at _ _ _ _ _ _ _ _ _ _ (by rw [ysbs_at]; simp only [ysb_at]; rfl)]
  simp only [ysb_at]
  rfl

theorem pay10_at (x1 : FVec Ideal S512x1024 .f32) (x7 : Vec Ideal S1x1x1024 .f32) (q : FVec Ideal S512x1 .f32) (r : Fin 512) (d : Fin 1024) :
    k0_pay10 x1 (k0_pay8 x7) q (ix2 r d) = x1 (ix2 r d) * q (ix2 r 0) * x7 (ix3 0 0 d) := by
  pointwise [k0_pay10, k0_pay8]

theorem HN_at (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (x7 : Vec Ideal S1x1x1024 .f32) (r : Fin 512) (d : Fin 1024) :
    HN x0 x1 x2 x3 x4 x5 x6 x7 (ix2 r d) = rms c1024 (x1r x0 x1 x2 x3 x4 x5 x6 r) (fun d => x7 (ix3 0 0 d)) d := by
  unfold HN
  rw [pay10_at, ld3 x7]
  have h9 : ∀ v22 v24 v26 v31 v32 v40 v43 v45 v48, k0_pay9 (F := Ideal) v22 v24 v26 v31 v32 v40 v43 v45 v48 (ix2 r 0)
      = Ideal.rsqrt (Ideal.div (∑ k, k0_pay7 (F := Ideal) v22 v24 v26 v31 v32 v40 v43 v45 v48 (ix2 r k) * k0_pay7 v22 v24 v26 v31 v32 v40 v43 v45 v48 (ix2 r k)) c1024 + eps) := by
    intro v22 v24 v26 v31 v32 v40 v43 v45 v48
    pointwise [k0_pay9]
    rfl
  rw [h9]
  change X1 x0 x1 x2 x3 x4 x5 x6 (ix2 r d) * Ideal.rsqrt (Ideal.div (∑ k, X1 x0 x1 x2 x3 x4 x5 x6 (ix2 r k) * X1 x0 x1 x2 x3 x4 x5 x6 (ix2 r k)) c1024 + eps) * _ = _
  simp only [X1_at]
  rfl

theorem UP_at (h : FVec Ideal S512x1024 .bf16) (x8 : Vec Ideal S1x1024x5632 .bf16) (o : ℕ) (ho : o + 256 ≤ 5632) (r : Fin 512) (j : Fin 256) :
    UP h x8 o ho (ix2 r j) = ∑ k, h (ix2 r k) * x8 (ix3 0 k ⟨o + j.val, by omega⟩) := by
  pointwise [UP, k0_pay12]

theorem sc_at (w : Vec Ideal S1x8x256 .f32) (r : Fin 8) (j : Fin 256) :
    shapeCast S8x256 (shapeCast S8x256 w shapeCasts_S1x8x256_S8x256) shapeCasts_S8x256_S8x256 (ix2 r j) = w (ix3 0 r j) := by
  pointwise []

theorem HAL_at (s : Vec Ideal S22x8x256 .f32) (k : ℕ) (hk : k < 22) (r : Fin 8) (j : Fin 256) :
    HAL s k hk (ix2 r j) = s (ix3 ⟨k, hk⟩ r j) := by
  unfold HAL
  refine (sc_at _ r j).trans ?_
  refine View.ld_unit_apply_of _ _ _ _ _ _ ?_
  intro a; fin_cases a <;> simp

theorem CONV_at (e : Vec Ideal S1x520x256 .f32) (x9 : Vec Ideal S1x3x5632 .f32) (x10 : Vec Ideal S1x1x5632 .f32) (o : ℕ) (ho : o + 256 ≤ 5632) (r : Fin 512) (j : Fin 256) :
    CONV e x9 x10 o ho (ix2 r j) = conv (x10 (ix3 0 0 ⟨o + j.val, by omega⟩)) (x9 (ix3 0 0 ⟨o + j.val, by omega⟩)) (x9 (ix3 0 1 ⟨o + j.val, by omega⟩)) (x9 (ix3 0 2 ⟨o + j.val, by omega⟩))
      (e (ix3 0 ⟨8 + r.val, by omega⟩ j)) (e (ix3 0 ⟨7 + r.val, by omega⟩ j)) (e (ix3 0 ⟨6 + r.val, by omega⟩ j)) := by
  pointwise [CONV, k0_pay22, k0_pay23, k0_pay24, k0_pay20, k0_pay21]
  have h1 : (⟨(8 + r.val + 520 - 1) % 520, Nat.mod_lt _ (by decide)⟩ : Fin 520) = ⟨7 + r.val, by omega⟩ := Fin.ext (by show (8 + r.val + 520 - 1) % 520 = 7 + r.val; omega)
  have h2 : (⟨(8 + r.val + 520 - 2) % 520, Nat.mod_lt _ (by decide)⟩ : Fin 520) = ⟨6 + r.val, by omega⟩ := Fin.ext (by show (8 + r.val + 520 - 2) % 520 = 6 + r.val; omega)
  rw [h1, h2]
  rfl

theorem EXT_at (u : S512x256.Idx → Ideal .f32) (g : S8x256.Idx → Ideal .f32) (q : ℕ) (hq : q < 520) (j : Fin 256) :
    EXT u g (ix3 0 ⟨q, hq⟩ j) = if h : q < 8 then g (ix2 ⟨q, h⟩ j) else u (ix2 ⟨q - 8, by omega⟩ j) := rfl

/-- A column of the up projection of a tile, seen `n` rows above row `r`: inside the tile, or in the rows carried into it. -/
def above (u : Fin 512 → EReal) (hal : Fin 8 → EReal) (n : ℕ) (hn : n ≤ 2) (r : Fin 512) : EReal :=
  if h : n ≤ r.val then u ⟨r.val - n, by omega⟩ else hal ⟨8 + r.val - n, by omega⟩

theorem ST_at (h : FVec Ideal S512x1024 .bf16) (x8 : Vec Ideal S1x1024x5632 .bf16) (x9 : Vec Ideal S1x3x5632 .f32) (x10 : Vec Ideal S1x1x5632 .f32) (s : Vec Ideal S22x8x256 .f32) (k : ℕ) (hk : k < 22) (o : ℕ) (ho : o + 256 ≤ 5632) (r : Fin 512) (j : Fin 256) :
    ST h x8 x9 x10 s k hk o ho (ix2 r j) = conv (x10 (ix3 0 0 ⟨o + j.val, by omega⟩)) (x9 (ix3 0 0 ⟨o + j.val, by omega⟩)) (x9 (ix3 0 1 ⟨o + j.val, by omega⟩)) (x9 (ix3 0 2 ⟨o + j.val, by omega⟩))
      (∑ k, h (ix2 r k) * x8 (ix3 0 k ⟨o + j.val, by omega⟩))
      (above (fun r => ∑ k, h (ix2 r k) * x8 (ix3 0 k ⟨o + j.val, by omega⟩)) (fun q => s (ix3 ⟨k, hk⟩ q j)) 1 (by decide) r)
      (above (fun r => ∑ k, h (ix2 r k) * x8 (ix3 0 k ⟨o + j.val, by omega⟩)) (fun q => s (ix3 ⟨k, hk⟩ q j)) 2 (by decide) r) := by
  unfold ST
  have hc : ∀ (w : FVec Ideal S512x256 .f32), shapeCast S512x256 w shapeCasts_S512x256_S512x256 = w := by
    intro w; funext i; pointwise []
  rw [CONV_at, hc, EXT_at, EXT_at, EXT_at, dif_neg (by omega)]
  simp only [UP_at, HAL_at]
  have e0 : (⟨8 + r.val - 8, by omega⟩ : Fin 512) = r := Fin.ext (by show 8 + r.val - 8 = r.val; omega)
  rw [e0]
  congr 1
  · unfold above
    by_cases hr : 1 ≤ r.val
    · rw [dif_neg (by omega), dif_pos hr]
      have e1 : (⟨7 + r.val - 8, by omega⟩ : Fin 512) = ⟨r.val - 1, by omega⟩ := Fin.ext (by show 7 + r.val - 8 = r.val - 1; omega)
      rw [e1]
    · rw [dif_pos (by omega), dif_neg hr]
      have e1 : (⟨7 + r.val, by omega⟩ : Fin 8) = ⟨8 + r.val - 1, by omega⟩ := Fin.ext (by show 7 + r.val = 8 + r.val - 1; omega)
      rw [e1]
  · unfold above
    by_cases hr : 2 ≤ r.val
    · rw [dif_neg (by omega), dif_pos hr]
      have e1 : (⟨6 + r.val - 8, by omega⟩ : Fin 512) = ⟨r.val - 2, by omega⟩ := Fin.ext (by show 6 + r.val - 8 = r.val - 2; omega)
      rw [e1]
    · rw [dif_pos (by omega), dif_neg hr]
      have e1 : (⟨6 + r.val, by omega⟩ : Fin 8) = ⟨8 + r.val - 2, by omega⟩ := Fin.ext (by show 6 + r.val = 8 + r.val - 2; omega)
      rw [e1]

/-- The gate's curve as the kernel works it out. -/
def geluk (x : EReal) : EReal :=
  Ideal.div x (1 + FloatOps.exp2 (F := Ideal) (φ := .f32) (x * (x * x * (Named.named (F := Ideal) (φ := .f32) κ "gelu_ka" 0xBDD2D3E8#32 : Ideal .f32) + (Named.named (F := Ideal) (φ := .f32) κ "gelu_k" 0xC0135761#32 : Ideal .f32))))

theorem GATED_at (g u : FVec Ideal S512x256 .f32) (r : Fin 512) (j : Fin 256) :
    GATED g u (ix2 r j) = geluk (g (ix2 r j)) * u (ix2 r j) := by
  pointwise [GATED]
  rfl

theorem RES_at (x1 f : FVec Ideal S512x1024 .f32) (x12 : Vec Ideal S1x1x1024 .f32) (r : Fin 512) (j : Fin 1024) :
    RES x1 f x12 (ix2 r j) = rout (fun d => x1 (ix2 r d)) (fun d => f (ix2 r d)) (fun d => x12 (ix3 0 0 d)) j := by
  pointwise [RES]
  rfl

end Cert.KernelIdeal.Out
-- ==== Proof.Kern2.lean ====
module

public import proofs.«01_k».proof.Proof.Kern

@[expose] public section
set_option backward.proofsInPublic true
set_option maxRecDepth 16384
noncomputable section
namespace Cert.KernelIdeal.Out
open Cert.KernelIdeal Cert.KernelIdeal.Gen Idealize.ShloMosaic Idealize.ShloMosaic.TcCoe Idealize.SL.Sem Cert.Model

/-- The up projection of a tile. -/
def uk (h : FVec Ideal S512x1024 .bf16) (x8 : Vec Ideal S1x1024x5632 .bf16) (r : Fin 512) (c : Fin 5632) : EReal := ∑ k, h (ix2 r k) * x8 (ix3 0 k c)

/-- The convolution of a column of a tile, from the up projection and the rows carried in. -/
def cvk (x9 : Vec Ideal S1x3x5632 .f32) (x10 : Vec Ideal S1x1x5632 .f32) (u : Fin 512 → Fin 5632 → EReal) (hal : Fin 8 → Fin 5632 → EReal) (r : Fin 512) (c : Fin 5632) : EReal :=
  conv (x10 (ix3 0 0 c)) (x9 (ix3 0 0 c)) (x9 (ix3 0 1 c)) (x9 (ix3 0 2 c)) (u r c)
    (above (fun r => u r c) (fun q => hal q c) 1 (by decide) r) (above (fun r => u r c) (fun q => hal q c) 2 (by decide) r)

/-- The gated product of a tile at a column. -/
def actk (x9 : Vec Ideal S1x3x5632 .f32) (x10 : Vec Ideal S1x1x5632 .f32) (u : Fin 512 → Fin 5632 → EReal) (hal : Fin 8 → Fin 5632 → EReal) (r : Fin 512) (c : Fin 2816) : EReal :=
  geluk (cvk x9 x10 u hal r ⟨c.val, by omega⟩) * cvk x9 x10 u hal r ⟨2816 + c.val, by omega⟩

theorem ST_cvk (h : FVec Ideal S512x1024 .bf16) (x8 : Vec Ideal S1x1024x5632 .bf16) (x9 : Vec Ideal S1x3x5632 .f32) (x10 : Vec Ideal S1x1x5632 .f32) (s : Vec Ideal S22x8x256 .f32)
    (hal : Fin 8 → Fin 5632 → EReal) (k : ℕ) (hk : k < 22) (o : ℕ) (ho : o + 256 ≤ 5632)
    (hs : ∀ q j, s (ix3 ⟨k, hk⟩ q j) = hal q ⟨o + j.val, by omega⟩) (r : Fin 512) (j : Fin 256) :
    ST h x8 x9 x10 s k hk o ho (ix2 r j) = cvk x9 x10 (uk h x8) hal r ⟨o + j.val, by omega⟩ := by
  rw [ST_at]
  simp only [hs]
  rfl

theorem sc2_at (w : FVec Ideal S512x256 .bf16) (r : Fin 512) (j : Fin 256) :
    shapeCast S512x256 (shapeCast S1x512x256 w shapeCasts_S512x256_S1x512x256) shapeCasts_S1x512x256_S512x256 (ix2 r j) = w (ix2 r j) := by
  pointwise []

theorem mm_at (A : FVec Ideal S512x256 .bf16) (w : Vec Ideal S1x256x1024 .bf16) (r : Fin 512) (d : Fin 1024) :
    matmul (φ₂ := .bf16) dot_S512x256_S256x1024_S512x1024_1_0_0_1_n_n none A (shapeCast S256x1024 w shapeCasts_S1x256x1024_S256x1024) (constant S512x1024 .f32 0x00000000#32) (ix2 r d)
      = ∑ j : Fin 256, A (ix2 r j) * w (ix3 0 j d) := by
  pointwise []

theorem wd_at (x11 : Vec Ideal S1x2816x1024 .bf16) (o : ℕ) (ho : o + 256 ≤ 2816) (h) (j : Fin 256) (d : Fin 1024) :
    View.ld (Val := Elt Ideal) x11 (Rect.unit (s := S1x2816x1024) ![0, o, 0] S1x256x1024.size h) (ix3 0 j d) = x11 (ix3 0 ⟨o + j.val, by omega⟩ d) := by
  refine View.ld_unit_apply_of _ _ _ _ _ _ ?_
  intro a; fin_cases a <;> simp

section
variable (h : FVec Ideal S512x1024 .bf16) (x8 : Vec Ideal S1x1024x5632 .bf16) (x9 : Vec Ideal S1x3x5632 .f32) (x10 : Vec Ideal S1x1x5632 .f32) (s : Vec Ideal S22x8x256 .f32)
    (x11 : Vec Ideal S1x2816x1024 .bf16) (hal : Fin 8 → Fin 5632 → EReal)
    (hs : ∀ (k : Fin 22) (q : Fin 8) (j : Fin 256), s (ix3 k q j) = hal q ⟨colOf k.val + j.val, by have := colOf_le k.isLt; omega⟩)
include hs

theorem ACTC_at (c : ℕ) (hc : c < 11) (r : Fin 512) (j : Fin 256) :
    ACTC h x8 x9 x10 s c hc (ix2 r j) = actk x9 x10 (uk h x8) hal r ⟨c * 256 + j.val, by omega⟩ := by
  unfold ACTC
  refine (sc2_at _ r j).trans ?_
  rw [GATED_at, ST_cvk h x8 x9 x10 s hal, ST_cvk h x8 x9 x10 s hal]
  · unfold actk
    have e : (⟨2816 + c * 256 + j.val, by omega⟩ : Fin 5632) = ⟨2816 + (c * 256 + j.val), by omega⟩ := Fin.ext (Nat.add_assoc _ _ _)
    rw [e]
  · intro q j; rw [hs]; congr 1; apply Fin.ext; show colOf (2 * c + 1) + j.val = 2816 + c * 256 + j.val
    have : colOf (2 * c + 1) = 2816 + c * 256 := by unfold colOf; rw [if_neg (by omega), show (2 * c + 1) / 2 = c by omega]
    rw [this]
  · intro q j; rw [hs]; congr 1; apply Fin.ext; show colOf (2 * c) + j.val = c * 256 + j.val
    have : colOf (2 * c) = c * 256 := by unfold colOf; rw [if_pos (by omega), show (2 * c) / 2 = c by omega]
    rw [this]

theorem DN_at (c : ℕ) (hc : c < 11) (r : Fin 512) (d : Fin 1024) :
    DN h x8 x9 x10 s x11 c hc (ix2 r d) = ∑ j : Fin 256, actk x9 x10 (uk h x8) hal r ⟨c * 256 + j.val, by omega⟩ * x11 (ix3 0 ⟨c * 256 + j.val, by omega⟩ d) := by
  simp only [← ACTC_at h x8 x9 x10 s hal hs c hc r]
  unfold DN
  refine (mm_at _ _ r d).trans (Finset.sum_congr rfl fun j _ => congrArg _ ?_)
  exact wd_at x11 (c * 256) (by omega) _ j d

theorem FF_at (d : Fin 1024) (r : Fin 512) : (n : ℕ) → (hn : n < 11) →
    FF h x8 x9 x10 s x11 n hn (ix2 r d) = ∑ c : Fin (n + 1), ∑ j : Fin 256, actk x9 x10 (uk h x8) hal r ⟨c.val * 256 + j.val, by omega⟩ * x11 (ix3 0 ⟨c.val * 256 + j.val, by omega⟩ d)
  | 0, hn => by
    rw [FF, DN_at h x8 x9 x10 s x11 hal hs, Fin.sum_univ_one]
    rfl
  | n + 1, hn => by
    rw [FF, Fin.sum_univ_castSucc]
    refine Eq.trans (b := FF h x8 x9 x10 s x11 n (by omega) (ix2 r d) + DN h x8 x9 x10 s x11 (n + 1) hn (ix2 r d)) rfl ?_
    rw [FF_at d r n, DN_at h x8 x9 x10 s x11 hal hs]
    rfl

theorem FF_sum (r : Fin 512) (d : Fin 1024) :
    FF h x8 x9 x10 s x11 10 (by decide) (ix2 r d) = ∑ c : Fin 2816, actk x9 x10 (uk h x8) hal r c * x11 (ix3 0 c d) := by
  rw [FF_at h x8 x9 x10 s x11 hal hs]
  let f : ℕ → ℕ → EReal := fun a b => if hb : a * 256 + b < 2816 then actk x9 x10 (uk h x8) hal r ⟨a * 256 + b, hb⟩ * x11 (ix3 0 ⟨a * 256 + b, hb⟩ d) else 0
  have e := Fin.sum_univ_mul_divmod 11 256 f
  have e1 : ∀ c : Fin (11 * 256), f (c.val / 256) (c.val % 256) = actk x9 x10 (uk h x8) hal r c * x11 (ix3 0 c d) := by
    intro c
    have hc : c.val / 256 * 256 + c.val % 256 = c.val := by omega
    have hl : c.val / 256 * 256 + c.val % 256 < 2816 := by rw [hc]; exact c.isLt
    refine (dif_pos hl).trans ?_
    have hf : (⟨c.val / 256 * 256 + c.val % 256, hl⟩ : Fin 2816) = c := Fin.ext hc
    rw [hf]
  rw [Finset.sum_congr rfl fun c _ => e1 c] at e
  refine Eq.trans ?_ e.symm
  refine Finset.sum_congr rfl fun a _ => Finset.sum_congr rfl fun b _ => ?_
  have ha : a.val < 11 := a.isLt
  exact (show f a.val b.val = _ from dif_pos (show a.val * 256 + b.val < 2816 by omega)).symm
end

/-- The up projection of a tile from its blocks. -/
def ur (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (x7 : Vec Ideal S1x1x1024 .f32) (x8 : Vec Ideal S1x1024x5632 .bf16) (r : Fin 512) (c : Fin 5632) : EReal :=
  rup (x1r x0 x1 x2 x3 x4 x5 x6 r) (fun d => x7 (ix3 0 0 d)) (fun k => x8 (ix3 0 k c))

theorem uk_eq (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (x7 : Vec Ideal S1x1x1024 .f32) (x8 : Vec Ideal S1x1024x5632 .bf16) :
    uk (HN x0 x1 x2 x3 x4 x5 x6 x7) x8 = ur x0 x1 x2 x3 x4 x5 x6 x7 x8 := by
  funext r c
  unfold uk ur rup
  simp only [HN_at]

theorem OUTV_at (s : Vec Ideal S22x8x256 .f32) (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (x7 : Vec Ideal S1x1x1024 .f32) (x8 : Vec Ideal S1x1024x5632 .bf16) (x9 : Vec Ideal S1x3x5632 .f32) (x10 : Vec Ideal S1x1x5632 .f32) (x11 : Vec Ideal S1x2816x1024 .bf16) (x12 : Vec Ideal S1x1x1024 .f32)
    (hal : Fin 8 → Fin 5632 → EReal)
    (hs : ∀ (k : Fin 22) (q : Fin 8) (j : Fin 256), s (ix3 k q j) = hal q ⟨colOf k.val + j.val, by have := colOf_le k.isLt; omega⟩) (r : Fin 512) (d : Fin 1024) :
    OUTV s x0 x1 x2 x3 x4 x5 x6 x7 x8 x9 x10 x11 x12 (ix2 r d)
      = rout (x1r x0 x1 x2 x3 x4 x5 x6 r) (fun d => ∑ c : Fin 2816, actk x9 x10 (ur x0 x1 x2 x3 x4 x5 x6 x7 x8) hal r c * x11 (ix3 0 c d)) (fun d => x12 (ix3 0 0 d)) d := by
  unfold OUTV
  rw [RES_at]
  simp only [FF_sum _ x8 x9 x10 s x11 hal hs, X1_at, uk_eq]

theorem pay19_at (u : FVec Ideal S512x256 .f32) (q : Fin 8) (j : Fin 256) :
    k0_pay19 u (ix3 0 q j) = u (ix2 ⟨504 + q.val, by omega⟩ j) := by
  pointwise [k0_pay19]

theorem SOUTV_at (x0 : Vec Ideal S512x1024 .f32) (x1 : Vec Ideal S512x512 .bf16) (x2 : Vec Ideal S4x512x64 .bf16) (x3 : Vec Ideal S512x256 .bf16) (x4 : Vec Ideal S1x1x256 .f32) (x5 : Vec Ideal S1x1024x1024 .bf16) (x6 : Vec Ideal S1x1x1024 .f32) (x7 : Vec Ideal S1x1x1024 .f32) (x8 : Vec Ideal S1x1024x5632 .bf16) (x9 : Vec Ideal S1x3x5632 .f32) (x10 : Vec Ideal S1x1x5632 .f32) (x11 : Vec Ideal S1x2816x1024 .bf16) (x12 : Vec Ideal S1x1x1024 .f32)
    (k : Fin 22) (q : Fin 8) (j : Fin 256) :
    SOUTV x0 x1 x2 x3 x4 x5 x6 x7 x8 x9 x10 x11 x12 (ix3 k q j) = ur x0 x1 x2 x3 x4 x5 x6 x7 x8 ⟨504 + q.val, by omega⟩ ⟨colOf k.val + j.val, by have := colOf_le k.isLt; omega⟩ := by
  unfold SOUTV
  refine (pay19_at _ q j).trans ?_
  refine (UP_at _ x8 _ _ _ j).trans ?_
  rw [← uk_eq]
  rfl

theorem zero_at (k : Fin 22) (q : Fin 8) (j : Fin 256) : k0_pay11 (F := Ideal) (ix3 k q j) = 0 := by
  pointwise [k0_pay11]

end Cert.KernelIdeal.Out
-- ==== Proof.Ref.lean ====
module

public import proofs.«01_k».proof.Proof.Gen.ReferenceIdeal.Read
public import proofs.«01_k».proof.Proof.Model

@[expose] public section
set_option maxRecDepth 16384
noncomputable section
namespace Cert.ReferenceIdeal.Out
open Cert.ReferenceIdeal Cert.ReferenceIdeal.Read Idealize.ShloMosaic Idealize.ShloMosaic.TcCoe Idealize.SL.Sem Cert.Model

variable (a0 : (⟨S8x2048x1024, .f32⟩ : BufTy).Contents (Elt Ideal)) (a1 : (⟨S8x2048x512, .f32⟩ : BufTy).Contents (Elt Ideal)) (a2 a3 : (⟨S8x2048x256, .f32⟩ : BufTy).Contents (Elt Ideal)) (a4 : (⟨S2x256, .f32⟩ : BufTy).Contents (Elt Ideal)) (a5 : (⟨S2x1024x1024, .f32⟩ : BufTy).Contents (Elt Ideal)) (a6 a7 : (⟨S2x1024, .f32⟩ : BufTy).Contents (Elt Ideal)) (a8 : (⟨S2x1024x5632, .f32⟩ : BufTy).Contents (Elt Ideal)) (a9 : (⟨S2x3x5632, .f32⟩ : BufTy).Contents (Elt Ideal)) (a10 : (⟨S2x5632, .f32⟩ : BufTy).Contents (Elt Ideal)) (a11 : (⟨S2x2816x1024, .f32⟩ : BufTy).Contents (Elt Ideal)) (a12 : (⟨S2x1024, .f32⟩ : BufTy).Contents (Elt Ideal))

/-- The rows after the first residual. -/
def x1g (b : Fin 8) (s : Fin 2048) : Fin 1024 → EReal :=
  rx1 (fun d => a0 (ix3 b s d)) (fun j => a1 (ix3 b s j)) (fun j => a2 (ix3 b s j)) (fun j => a3 (ix3 b s j)) (fun j => a4 (ix2 0 j))
    (fun k e => a5 (ix3 0 k e)) (fun d => a6 (ix2 0 d))

/-- The up projection. -/
def ug (b : Fin 8) (s : Fin 2048) (c : Fin 5632) : EReal :=
  rup (x1g a0 a1 a2 a3 a4 a5 a6 b s) (fun d => a7 (ix2 0 d)) (fun k => a8 (ix3 0 k c))

/-- A column seen `n` rows earlier in the sequence, zero before its start. -/
def before (u : Fin 2048 → EReal) (n : ℕ) (s : Fin 2048) : EReal := if _h : n ≤ s.val then u ⟨s.val - n, by omega⟩ else 0

/-- The causal convolution along the sequence. -/
def cvg (b : Fin 8) (s : Fin 2048) (c : Fin 5632) : EReal :=
  conv (a10 (ix2 0 c)) (a9 (ix3 0 0 c)) (a9 (ix3 0 1 c)) (a9 (ix3 0 2 c)) (ug a0 a1 a2 a3 a4 a5 a6 a7 a8 b s c)
    (before (fun s => ug a0 a1 a2 a3 a4 a5 a6 a7 a8 b s c) 1 s) (before (fun s => ug a0 a1 a2 a3 a4 a5 a6 a7 a8 b s c) 2 s)

/-- The gate's curve as the reference writes it. -/
def gelur (x : EReal) : EReal :=
  x * (Ideal.ofBits FTy.f32 0x3F000000#32 * (1 + Ideal.tanh (Ideal.ofBits FTy.f32 0x3F4C422A#32 * (x + Ideal.ofBits FTy.f32 0x3D372713#32 * (x * x * x)))))

/-- The gated product. -/
def actg (b : Fin 8) (s : Fin 2048) (c : Fin 2816) : EReal :=
  gelur (cvg a0 a1 a2 a3 a4 a5 a6 a7 a8 a9 a10 b s ⟨c.val, by omega⟩) * cvg a0 a1 a2 a3 a4 a5 a6 a7 a8 a9 a10 b s ⟨2816 + c.val, by omega⟩

/-- The result's rows. -/
def outg (b : Fin 8) (s : Fin 2048) (d : Fin 1024) : EReal :=
  rout (x1g a0 a1 a2 a3 a4 a5 a6 b s) (fun d => ∑ c : Fin 2816, actg a0 a1 a2 a3 a4 a5 a6 a7 a8 a9 a10 b s c * a11 (ix3 0 c d)) (fun d => a12 (ix2 0 d)) d

theorem v14_at (b : Fin 8) (s : Fin 2048) (j : Fin 256) :
    val_main_v14 (F := Ideal) a2 a4 (ix3 b s j) = rms c256 (fun j => a2 (ix3 b s j)) (fun j => a4 (ix2 0 j)) j := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v15_at (b : Fin 8) (s : Fin 2048) (j : Fin 1024) :
    val_main_v15 (F := Ideal) a1 a2 a3 a4 (ix3 b s j) = mix (fun j => a1 (ix3 b s j)) (fun j => a2 (ix3 b s j)) (fun j => a3 (ix3 b s j)) (fun j => a4 (ix2 0 j)) j := by
  unfold mix
  simp only [← v14_at]
  pointwise [val_main_v15]
  try rfl

theorem v18_at (b : Fin 8) (s : Fin 2048) (d : Fin 1024) :
    val_main_v18 (F := Ideal) a1 a2 a3 a4 a5 (ix3 b s d) = ∑ k, mix (fun j => a1 (ix3 b s j)) (fun j => a2 (ix3 b s j)) (fun j => a3 (ix3 b s j)) (fun j => a4 (ix2 0 j)) k * a5 (ix3 0 k d) := by
  simp only [← v15_at]
  pointwise [val_main_v18, val_main_v17, val_main_v16]
  try rfl

theorem v34_at (b : Fin 8) (s : Fin 2048) (d : Fin 1024) :
    val_main_v34 (F := Ideal) a0 a1 a2 a3 a4 a5 a6 (ix3 b s d) = x1g a0 a1 a2 a3 a4 a5 a6 b s d := by
  unfold x1g rx1
  simp only [← v18_at]
  pointwise [val_main_v34, val_main_v33, val_main_v32, val_main_v31, val_main_v30, val_main_v29, val_main_v28, val_main_v27, val_main_v26, val_main_v25, val_main_v24, val_main_v23, val_main_v22, val_main_v21, val_main_v20, val_main_v19, val_main_cst_2, val_main_cst_3, val_main_cst_4]
  rfl

theorem v49_at (b : Fin 8) (s : Fin 2048) (d : Fin 1024) :
    val_main_v49 (F := Ideal) a0 a1 a2 a3 a4 a5 a6 a7 (ix3 b s d) = rms c1024 (x1g a0 a1 a2 a3 a4 a5 a6 b s) (fun d => a7 (ix2 0 d)) d := by
  unfold rms
  simp only [← v34_at]
  pointwise [val_main_v49, val_main_v48, val_main_v47, val_main_v46, val_main_v45, val_main_v44, val_main_v43, val_main_v42, val_main_v41, val_main_v40, val_main_v39, val_main_v38, val_main_v37, val_main_v36, val_main_v35, val_main_cst_5, val_main_cst_6, val_main_cst_7]
  rfl

theorem v52_at (b : Fin 8) (s : Fin 2048) (c : Fin 5632) :
    val_main_v52 (F := Ideal) a0 a1 a2 a3 a4 a5 a6 a7 a8 (ix3 b s c) = ug a0 a1 a2 a3 a4 a5 a6 a7 a8 b s c := by
  unfold ug rup
  simp only [← v49_at]
  pointwise [val_main_v52, val_main_v51, val_main_v50]
  try rfl

theorem v57_at (b : Fin 8) (q : Fin 2050) (c : Fin 5632) :
    val_main_v57 (F := Ideal) a0 a1 a2 a3 a4 a5 a6 a7 a8 (ix3 b q c) = if h : 2 ≤ q.val then ug a0 a1 a2 a3 a4 a5 a6 a7 a8 b ⟨q.val - 2, by omega⟩ c else 0 := by
  simp only [← v52_at]
  pointwise [val_main_v57]
  by_cases h : 2 ≤ q.val
  · rw [dif_pos ⟨h, by omega⟩, dif_pos h]
  · rw [dif_neg (fun h' => h h'.1), dif_neg h]
    pointwise [val_main_call0_v0, val_main_c]
    change (((0#32 : BitVec 32).toInt : ℝ) : EReal) = 0
    simp

theorem v80_at (b : Fin 8) (s : Fin 2048) (c : Fin 5632) :
    val_main_v80 (F := Ideal) a0 a1 a2 a3 a4 a5 a6 a7 a8 a9 a10 (ix3 b s c) = cvg a0 a1 a2 a3 a4 a5 a6 a7 a8 a9 a10 b s c := by
  pointwise [val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v56, val_main_v55, val_main_v54, val_main_v53]
  simp only [v57_at]
  unfold cvg conv before
  have e1 : (⟨2 + s.val - 2, by omega⟩ : Fin 2048) = s := Fin.ext (by show 2 + s.val - 2 = s.val; omega)
  rw [dif_pos (show 2 ≤ 2 + s.val by omega), e1]
  rw [mul_comm (a9 (ix3 0 0 c)), mul_comm (a9 (ix3 0 1 c)), mul_comm (a9 (ix3 0 2 c))]
  have e2 : (if h : 2 ≤ 1 + s.val then ug a0 a1 a2 a3 a4 a5 a6 a7 a8 b ⟨1 + s.val - 2, by omega⟩ c else 0) = if h : 1 ≤ s.val then ug a0 a1 a2 a3 a4 a5 a6 a7 a8 b ⟨s.val - 1, by omega⟩ c else 0 := by
    by_cases h : 1 ≤ s.val
    · rw [dif_pos h, dif_pos (by omega)]
      congr 1
      exact Fin.ext (by show 1 + s.val - 2 = s.val - 1; omega)
    · rw [dif_neg h, dif_neg (by omega)]
  rw [e2]
  abel

theorem v96_at (b : Fin 8) (s : Fin 2048) (c : Fin 2816) :
    val_main_v96 (F := Ideal) a0 a1 a2 a3 a4 a5 a6 a7 a8 a9 a10 (ix3 b s c) = actg a0 a1 a2 a3 a4 a5 a6 a7 a8 a9 a10 b s c := by
  unfold actg
  simp only [← v80_at]
  pointwise [val_main_v96, val_main_v95, val_main_v94, val_main_v93, val_main_v92, val_main_v91, val_main_v90, val_main_v89, val_main_v88, val_main_v87, val_main_v86, val_main_v85, val_main_v84, val_main_v83, val_main_v82, val_main_v81, val_main_cst_8, val_main_cst_9, val_main_cst_10, val_main_cst_11]
  rfl

theorem v99_at (b : Fin 8) (s : Fin 2048) (d : Fin 1024) :
    val_main_v99 (F := Ideal) a0 a1 a2 a3 a4 a5 a6 a7 a8 a9 a10 a11 (ix3 b s d) = ∑ c : Fin 2816, actg a0 a1 a2 a3 a4 a5 a6 a7 a8 a9 a10 b s c * a11 (ix3 0 c d) := by
  simp only [← v96_at]
  pointwise [val_main_v99, val_main_v98, val_main_v97]
  try rfl

theorem v115_at (b : Fin 8) (s : Fin 2048) (d : Fin 1024) :
    val_main_v115 (F := Ideal) a0 a1 a2 a3 a4 a5 a6 a7 a8 a9 a10 a11 a12 (ix3 b s d) = outg a0 a1 a2 a3 a4 a5 a6 a7 a8 a9 a10 a11 a12 b s d := by
  unfold outg rout
  simp only [← v99_at, ← v34_at]
  pointwise [val_main_v115, val_main_v114, val_main_v113, val_main_v112, val_main_v111, val_main_v110, val_main_v109, val_main_v108, val_main_v107, val_main_v106, val_main_v105, val_main_v104, val_main_v103, val_main_v102, val_main_v101, val_main_v100, val_main_cst_12, val_main_cst_13, val_main_cst_14]
  rfl

theorem v116_at (R : Fin 16384) (d : Fin 1024) :
    val_main_v116 (F := Ideal) a0 a1 a2 a3 a4 a5 a6 a7 a8 a9 a10 a11 a12 (ix2 R d) = outg a0 a1 a2 a3 a4 a5 a6 a7 a8 a9 a10 a11 a12 ⟨R.val / 2048, by omega⟩ ⟨R.val % 2048, by omega⟩ d := by
  rw [← v115_at]
  pointwise [val_main_v116]
  try rfl

end Cert.ReferenceIdeal.Out
-- ==== Proof.Consts.lean ====
module

public import Idealize.ShloMosaic.PureOps.Ideal

@[expose] public section
noncomputable section
namespace Cert.Consts
open Idealize.ShloMosaic

theorem ofBits_half : Ideal.ofBits .f32 0x3F000000#32 = ((1 / 2 : ℝ) : EReal) := by
  simp [Ideal.ofBits, Ideal.ieee, -EReal.coe_mul]; norm_num

theorem ofBits_c : Ideal.ofBits .f32 0x3F4C422A#32 = ((6693141 / 8388608 : ℝ) : EReal) := by
  simp [Ideal.ofBits, Ideal.ieee, -EReal.coe_mul]; norm_num

theorem ofBits_a : Ideal.ofBits .f32 0x3D372713#32 = ((12003091 / 268435456 : ℝ) : EReal) := by
  simp [Ideal.ofBits, Ideal.ieee, -EReal.coe_mul]; norm_num

end Cert.Consts

end
-- ==== Proof.Gelu.lean ====
module

public import proofs.«01_k».proof.Proof.Kern
public import proofs.«01_k».proof.Proof.Ref
public import proofs.«01_k».proof.Proof.Consts
public import proofs.«01_k».proof.Defs

@[expose] public section
noncomputable section
namespace Cert.Gelu
open Idealize.ShloMosaic Cert.Consts

theorem named_k : Named.named (F := Ideal) Cert.KernelIdeal.κ "gelu_k" (φ := .f32) 0xC0135761#32 = (((-6693141 / 4194304) * (Real.log 2)⁻¹ : ℝ) : EReal) :=
  IdealRules.named_const.ideal_named_scalar _ _ _ _ rfl

theorem named_ka : Named.named (F := Ideal) Cert.KernelIdeal.κ "gelu_ka" (φ := .f32) 0xBDD2D3E8#32 = (((-80338380498831 / 1125899906842624) * (Real.log 2)⁻¹ : ℝ) : EReal) :=
  IdealRules.named_const.ideal_named_scalar _ _ _ _ rfl

theorem log2_pos : 0 < Real.log 2 := Real.log_pos (by norm_num)

/-- On the reals the quotient by one plus a power of two is the half of one plus a hyperbolic tangent. -/
theorem real_curve (x : ℝ) :
    x * (1 + Real.rpow 2 (x * (x * x * ((-80338380498831 / 1125899906842624) * (Real.log 2)⁻¹) + (-6693141 / 4194304) * (Real.log 2)⁻¹)))⁻¹
      = x * ((1 / 2) * (1 + Real.tanh ((6693141 / 8388608) * (x + (12003091 / 268435456) * (x * x * x))))) := by
  set z : ℝ := (6693141 / 8388608) * (x + (12003091 / 268435456) * (x * x * x)) with hz
  have hl := log2_pos.ne'
  have e : Real.rpow 2 (x * (x * x * ((-80338380498831 / 1125899906842624) * (Real.log 2)⁻¹) + (-6693141 / 4194304) * (Real.log 2)⁻¹)) = Real.exp (-(2 * z)) := by
    rw [Real.rpow_eq_pow, Real.rpow_def_of_pos (by norm_num)]
    congr 1
    rw [hz]
    field_simp
    ring
  rw [e, Real.tanh_eq_sinh_div_cosh, Real.sinh_eq, Real.cosh_eq]
  have h1 : Real.exp (-(2 * z)) = Real.exp (-z) * Real.exp (-z) := by rw [← Real.exp_add]; congr 1; ring
  have h2 : Real.exp z * Real.exp (-z) = 1 := by rw [← Real.exp_add]; simp
  have p1 := Real.exp_pos z
  have p2 := Real.exp_pos (-z)
  rw [h1]
  congr 1
  have h3 : (1 + Real.exp (-z) * Real.exp (-z)) ≠ 0 := by positivity
  have h4 : (Real.exp z + Real.exp (-z)) ≠ 0 := by positivity
  field_simp
  nlinarith [h2]

theorem gelu_eq (x : EReal) : Cert.KernelIdeal.Out.geluk x = Cert.ReferenceIdeal.Out.gelur x := by
  unfold Cert.KernelIdeal.Out.geluk Cert.ReferenceIdeal.Out.gelur
  rw [named_k, named_ka, ofBits_half, ofBits_c, ofBits_a]
  have hl := log2_pos
  have hka : ((-80338380498831 / 1125899906842624) * (Real.log 2)⁻¹ : ℝ) < 0 := mul_neg_of_neg_of_pos (by norm_num) (inv_pos.mpr hl)
  change Ideal.div x (1 + Ideal.exp2 _) = _
  induction x with
  | bot =>
    rw [EReal.bot_mul_bot, EReal.top_mul_coe_of_neg hka, EReal.bot_add, EReal.bot_mul_bot, EReal.top_mul_bot]
    rw [EReal.coe_mul_bot_of_pos (by norm_num : (0:ℝ) < 12003091 / 268435456), EReal.bot_add, EReal.coe_mul_bot_of_pos (by norm_num)]
    have e1 : (1 : EReal) + ⊤ = ⊤ := EReal.add_top_of_ne_bot (by rw [← EReal.coe_one]; exact EReal.coe_ne_bot 1)
    have e2 : (1 : EReal) + -1 = 0 := by rw [← EReal.coe_one, ← EReal.coe_neg, ← EReal.coe_add]; simp
    rw [Ideal.exp2_top, Ideal.tanh_bot, e1, e2, mul_zero, mul_zero]
    simp [Ideal.div]
  | top =>
    rw [EReal.top_mul_top, EReal.top_mul_coe_of_neg hka, EReal.bot_add, EReal.top_mul_bot, EReal.top_mul_top]
    rw [EReal.coe_mul_top_of_pos (by norm_num : (0:ℝ) < 12003091 / 268435456), EReal.top_add_top, EReal.coe_mul_top_of_pos (by norm_num)]
    have e2 : (1 : EReal) + 1 = ((2 : ℝ) : EReal) := by rw [← EReal.coe_one, ← EReal.coe_add]; norm_num
    rw [Ideal.exp2_bot, Ideal.tanh_top, e2, ← EReal.coe_mul, EReal.top_mul_coe_of_pos (by norm_num), add_zero]
    simp [Ideal.div]
  | coe r =>
    have hp : (0 : ℝ) < Real.rpow 2 (r * (r * r * ((-80338380498831 / 1125899906842624) * (Real.log 2)⁻¹) + (-6693141 / 4194304) * (Real.log 2)⁻¹)) := Real.rpow_pos_of_pos (by norm_num) _
    rw [← EReal.coe_one]
    simp only [← EReal.coe_mul, ← EReal.coe_add, Ideal.exp2_coe, Ideal.tanh_coe]
    rw [Ideal.div_coe (by positivity), one_div, ← EReal.coe_mul]
    exact congrArg _ (real_curve r)

theorem preserves : Cert.preserves_Kernel_KernelIdeal :=
  ⟨IdealRules.named_const.statement Cert.KernelIdeal.κ "gelu_ka" .f32 0xBDD2D3E8#32 _ rfl, IdealRules.named_const.statement Cert.KernelIdeal.κ "gelu_k" .f32 0xC0135761#32 _ rfl⟩

end Cert.Gelu
end
-- ==== Proof.Point.lean ====
module

public import proofs.«01_k».proof.Proof.Blocks
public import proofs.«01_k».proof.Proof.OutVal
public import proofs.«01_k».proof.Proof.Kern2
public import proofs.«01_k».proof.Proof.Gelu

@[expose] public section
set_option backward.proofsInPublic true
set_option maxRecDepth 16384
noncomputable section
namespace Cert.KernelIdeal.Out
open Cert.KernelIdeal Cert.KernelIdeal.Gen Idealize.ShloMosaic Idealize.ShloMosaic.TcCoe Idealize.SL.Sem Cert.Model
open Cert.ReferenceIdeal.Out (x1g ug before cvg gelur actg outg)

variable (m : (ℓ : Loc nD τ sig) → Buf (Elt Ideal) ℓ) (c : Dev nD)

/-- The arguments of the run, on a device. -/
abbrev g0 := m ((c : Thread nD τ).loc main_arg0)
abbrev g1 := m ((c : Thread nD τ).loc main_arg1)
abbrev g2 := m ((c : Thread nD τ).loc main_arg2)
abbrev g3 := m ((c : Thread nD τ).loc main_arg3)
abbrev g4 := m ((c : Thread nD τ).loc main_arg4)
abbrev g5 := m ((c : Thread nD τ).loc main_arg5)
abbrev g6 := m ((c : Thread nD τ).loc main_arg6)
abbrev g7 := m ((c : Thread nD τ).loc main_arg7)
abbrev g8 := m ((c : Thread nD τ).loc main_arg8)
abbrev g9 := m ((c : Thread nD τ).loc main_arg9)
abbrev g10 := m ((c : Thread nD τ).loc main_arg10)
abbrev g11 := m ((c : Thread nD τ).loc main_arg11)
abbrev g12 := m ((c : Thread nD τ).loc main_arg12)

theorem rx1_congr {x x' : Fin 1024 → EReal} {ym ym' : Fin 512 → EReal} {ys ys' yp yp' g g' : Fin 256 → EReal} {wo wo' : Fin 1024 → Fin 1024 → EReal}
    {p p' : Fin 1024 → EReal} (h0 : x = x') (h1 : ym = ym') (h2 : ys = ys') (h3 : yp = yp') (h4 : g = g') (h5 : wo = wo') (h6 : p = p') :
    rx1 x ym ys yp g wo p = rx1 x' ym' ys' yp' g' wo' p' := by
  subst h0 h1 h2 h3 h4 h5 h6; rfl

theorem rup_congr {x x' p p' w w' : Fin 1024 → EReal} (h0 : x = x') (h1 : p = p') (h2 : w = w') : rup x p w = rup x' p' w' := by
  subst h0 h1 h2; rfl

theorem rout_congr {x x' f f' p p' : Fin 1024 → EReal} (h0 : x = x') (h1 : f = f') (h2 : p = p') (d : Fin 1024) : rout x f p d = rout x' f' p' d := by
  subst h0 h1 h2; rfl

theorem ys_blk (t : Fin cfg0.N) (r : Fin 512) : ysr (iblk m c 2 t) r = fun j => g2 m c (ix3 (bOf t) (sOf t r) j) := by
  funext j
  refine (blk2 m c t _ r _).trans (congrArg _ (congrArg _ (Fin.ext ?_)))
  show j.val / 64 * 64 + j.val % 64 = j.val
  omega

theorem x1_blk (t : Fin cfg0.N) (r : Fin 512) :
    x1r (iblk m c 0 t) (iblk m c 1 t) (iblk m c 2 t) (iblk m c 3 t) (iblk m c 4 t) (iblk m c 5 t) (iblk m c 6 t) r
      = x1g (g0 m c) (g1 m c) (g2 m c) (g3 m c) (g4 m c) (g5 m c) (g6 m c) (bOf t) (sOf t r) :=
  rx1_congr (funext fun d => blk0 m c t r d) (funext fun d => blk1 m c t r d) (ys_blk m c t r) (funext fun d => blk3 m c t r d)
    (funext fun d => blk4 m c t d) (funext fun k => funext fun e => blk5 m c t k e) (funext fun d => blk6 m c t d)

/-- The up projection of the point's tile. -/
abbrev ut (t : Fin cfg0.N) : Fin 512 → Fin 5632 → EReal :=
  ur (iblk m c 0 t) (iblk m c 1 t) (iblk m c 2 t) (iblk m c 3 t) (iblk m c 4 t) (iblk m c 5 t) (iblk m c 6 t) (iblk m c 7 t) (iblk m c 8 t)

/-- The up projection of the sequences. -/
abbrev us (b : Fin 8) (s : Fin 2048) (e : Fin 5632) : EReal :=
  ug (g0 m c) (g1 m c) (g2 m c) (g3 m c) (g4 m c) (g5 m c) (g6 m c) (g7 m c) (g8 m c) b s e

theorem up_blk (t : Fin cfg0.N) (r : Fin 512) (e : Fin 5632) : ut m c t r e = us m c (bOf t) (sOf t r) e :=
  rup_congr (x1_blk m c t r) (funext fun d => blk7 m c t d) (funext fun k => blk8 m c t k e)

/-- The rows carried into a tile are the sequence's rows before it, or zero at its start. -/
def Carried (t : Fin cfg0.N) (hal : Fin 8 → Fin 5632 → EReal) : Prop :=
  ∀ (q : Fin 8) (e : Fin 5632), hal q e = if h : t.val % 4 = 0 then 0 else us m c (bOf t) ⟨t.val % 4 * 512 + q.val - 8, by omega⟩ e

theorem above_blk (t : Fin cfg0.N) (hal : Fin 8 → Fin 5632 → EReal) (hh : Carried m c t hal) (n : ℕ) (hn : n ≤ 2) (r : Fin 512) (e : Fin 5632) :
    above (fun r => ut m c t r e) (fun q => hal q e) n hn r = before (fun s => us m c (bOf t) s e) n (sOf t r) := by
  unfold above before
  have hs : (sOf t r).val = t.val % 4 * 512 + r.val := rfl
  by_cases h : n ≤ r.val
  · rw [dif_pos h, dif_pos (by rw [hs]; omega)]
    refine (up_blk m c t _ e).trans ?_
    refine congrArg (fun s => us m c (bOf t) s e) (Fin.ext ?_)
    show t.val % 4 * 512 + (r.val - n) = t.val % 4 * 512 + r.val - n
    omega
  · rw [dif_neg h]
    refine (hh _ e).trans ?_
    by_cases h0 : t.val % 4 = 0
    · rw [dif_pos h0, dif_neg (by rw [hs]; omega)]
    · rw [dif_neg h0, dif_pos (by rw [hs]; omega)]
      refine congrArg (fun s => us m c (bOf t) s e) (Fin.ext ?_)
      show t.val % 4 * 512 + (8 + r.val - n) - 8 = t.val % 4 * 512 + r.val - n
      omega

theorem conv_congr {b b' w0 w0' w1 w1' w2 w2' u0 u0' u1 u1' u2 u2' : EReal} (h0 : b = b') (h1 : w0 = w0') (h2 : w1 = w1') (h3 : w2 = w2') (h4 : u0 = u0') (h5 : u1 = u1') (h6 : u2 = u2') :
    conv b w0 w1 w2 u0 u1 u2 = conv b' w0' w1' w2' u0' u1' u2' := by
  subst h0 h1 h2 h3 h4 h5 h6; rfl

theorem cv_blk (t : Fin cfg0.N) (hal : Fin 8 → Fin 5632 → EReal) (hh : Carried m c t hal) (r : Fin 512) (e : Fin 5632) :
    cvk (iblk m c 9 t) (iblk m c 10 t) (ut m c t) hal r e
      = cvg (g0 m c) (g1 m c) (g2 m c) (g3 m c) (g4 m c) (g5 m c) (g6 m c) (g7 m c) (g8 m c) (g9 m c) (g10 m c) (bOf t) (sOf t r) e :=
  conv_congr (blk10 m c t e) (blk9 m c t 0 e) (blk9 m c t 1 e) (blk9 m c t 2 e) (up_blk m c t r e) (above_blk m c t hal hh 1 _ r e) (above_blk m c t hal hh 2 _ r e)

theorem act_blk (t : Fin cfg0.N) (hal : Fin 8 → Fin 5632 → EReal) (hh : Carried m c t hal) (r : Fin 512) (e : Fin 2816) :
    actk (iblk m c 9 t) (iblk m c 10 t) (ut m c t) hal r e
      = actg (g0 m c) (g1 m c) (g2 m c) (g3 m c) (g4 m c) (g5 m c) (g6 m c) (g7 m c) (g8 m c) (g9 m c) (g10 m c) (bOf t) (sOf t r) e := by
  unfold actk actg
  rw [cv_blk m c t hal hh, cv_blk m c t hal hh, Cert.Gelu.gelu_eq]

/-- A row of the result of the sequences. -/
abbrev og (b : Fin 8) (s : Fin 2048) (d : Fin 1024) : EReal :=
  outg (g0 m c) (g1 m c) (g2 m c) (g3 m c) (g4 m c) (g5 m c) (g6 m c) (g7 m c) (g8 m c) (g9 m c) (g10 m c) (g11 m c) (g12 m c) b s d

theorem tile (t : Fin cfg0.N) (hal : Fin 8 → Fin 5632 → EReal) (hh : Carried m c t hal) (s : Vec Ideal S22x8x256 .f32)
    (hs : ∀ (k : Fin 22) (q : Fin 8) (j : Fin 256), s (ix3 k q j) = hal q ⟨colOf k.val + j.val, by have := colOf_le k.isLt; omega⟩) (r : Fin 512) (d : Fin 1024) :
    OUTV s (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r d)
      = og m c (bOf t) (sOf t r) d :=
  (OUTV_at s _ _ _ _ _ _ _ _ _ _ _ _ _ hal hs r d).trans
    (rout_congr (x1_blk m c t r) (funext fun d => Finset.sum_congr rfl fun e _ => congrArg₂ (· * ·) (act_blk m c t hal hh r e) (blk11 m c t e d))
      (funext fun d => blk12 m c t d) d)

/-- What a point leaves for the next: the last eight rows of its up projection. -/
theorem left_at (t : Fin cfg0.N) (k : Fin 22) (q : Fin 8) (j : Fin 256) :
    (outsAt0 m c t.val t.isLt).2 (ix3 k q j) = ut m c t ⟨504 + q.val, by omega⟩ ⟨colOf k.val + j.val, by have := colOf_le k.isLt; omega⟩ := by
  by_cases h0 : t.val % 4 = 0
  · rw [outsAt0_A m c t h0]
    dsimp only
    rw [sout0_A]
    exact SOUTV_at _ _ _ _ _ _ _ _ _ _ _ _ _ k q j
  · rw [outsAt0_B m c t h0]
    dsimp only
    rw [sout0_B]
    exact SOUTV_at _ _ _ _ _ _ _ _ _ _ _ _ _ k q j

/-- What a point writes: its rows of the reference's result. -/
theorem row_at (t : Fin cfg0.N) (r : Fin 512) (d : Fin 1024) :
    (outsAt0 m c t.val t.isLt).1 (ix2 r d) = og m c (bOf t) (sOf t r) d := by
  by_cases h0 : t.val % 4 = 0
  · rw [outsAt0_A m c t h0]
    dsimp only
    rw [out0_A]
    exact tile m c t (fun _ _ => 0) (fun q e => (show (dite (t.val % 4 = 0) _ _ : EReal) = 0 from dif_pos h0).symm) _ (fun k q j => zero_at k q j) r d
  · rw [outsAt0_B m c t h0]
    dsimp only
    rw [out0_B]
    have ht := t.isLt
    let t' : Fin cfg0.N := ⟨t.val - 1, Nat.lt_of_le_of_lt (Nat.sub_le _ _) t.isLt⟩
    refine tile m c t (fun q e => ut m c t' ⟨504 + q.val, by omega⟩ e) (fun q e => ?_) _ (fun k q j => left_at m c t' k q j) r d
    refine Eq.trans ?_ (dif_neg h0).symm
    refine (up_blk m c t' _ e).trans ?_
    have hb : bOf t' = bOf t := Fin.ext (by show (t.val - 1) / 4 = t.val / 4; omega)
    rw [hb]
    refine congrArg (fun s => us m c (bOf t) s e) (Fin.ext ?_)
    show (t.val - 1) % 4 * 512 + (504 + q.val) = t.val % 4 * 512 + q.val - 8
    omega

/-- The whole result of the run is the reference's. -/
theorem result_at (R : Fin 16384) (d : Fin 1024) :
    Cert.KernelIdeal.Value.G13 m c (ix2 R d) = og m c ⟨R.val / 2048, by omega⟩ ⟨R.val % 2048, by omega⟩ d := by
  have hp : Cert.KernelIdeal.Value.pt13Of (ix2 R d) = R.val / 512 := by
    show 1 * (R.val / 512 - 0) + 1 * (d.val / 1024 - 0) = R.val / 512
    omega
  have hN : cfg0.N = 32 := N_0
  have hlt : R.val / 512 < cfg0.N := by omega
  have hl : Cert.KernelIdeal.Value.loc13Of (ix2 R d) = ix2 ⟨R.val % 512, by omega⟩ d := by
    funext a; apply Fin.ext
    match a with
    | ⟨0, _⟩ => rfl
    | ⟨1, _⟩ => show d.val % 1024 = d.val; omega
  unfold Cert.KernelIdeal.Value.G13
  rw [dif_pos (by rw [hp]; exact hlt), hl, Cert.KernelIdeal.Value.fold0_congr m c _ _ (R.val / 512) (by omega) hp, ← Cert.KernelIdeal.Value.outsAt0_sweep m c _ hlt]
  refine (row_at m c ⟨R.val / 512, hlt⟩ _ d).trans ?_
  have e1 : bOf ⟨R.val / 512, hlt⟩ = (⟨R.val / 2048, by omega⟩ : Fin 8) := Fin.ext (by show R.val / 512 / 4 = R.val / 2048; omega)
  have e2 : sOf ⟨R.val / 512, hlt⟩ ⟨R.val % 512, by omega⟩ = (⟨R.val % 2048, by omega⟩ : Fin 2048) :=
    Fin.ext (by show R.val / 512 % 4 * 512 + R.val % 512 = R.val % 2048; omega)
  rw [e1, e2]

end Cert.KernelIdeal.Out
-- ==== Proof.Model2.lean ====
module

public import proofs.«01_k».proof.Proof.Model

@[expose] public section
set_option backward.proofsInPublic true
noncomputable section
namespace Cert.Model
open Idealize.ShloMosaic

/-- Four taps and a bias: `u0` is the row itself, `u1` to `u3` the ones before it. -/
def conv4 (b w0 w1 w2 w3 u0 u1 u2 u3 : EReal) : EReal := b + w3 * u0 + w2 * u1 + w1 * u2 + w0 * u3

/-- A number times its logistic. -/
def siluk (a : EReal) : EReal := a * Ideal.div 1 (1 + Ideal.exp (0 - a))

/-- The factor of the keys. -/
def kscale : EReal := Ideal.ofBits FTy.f32 0x3DB504F3#32

/-- The logarithm of the logistic. -/
def lsigk (a : EReal) : EReal := min a 0 - Ideal.log1p (Ideal.exp (0 - FloatOps.absf (F := Ideal) (φ := .f32) a))

/-- The sum of a row and the `n` before it. -/
def tsum (f : ℕ → EReal) : ℕ → EReal
  | 0 => f 0
  | n + 1 => tsum f n + f (n + 1)

theorem tsum_zero (f : ℕ → EReal) : tsum f 0 = f 0 := rfl
theorem tsum_succ (f : ℕ → EReal) (n : ℕ) : tsum f (n + 1) = tsum f n + f (n + 1) := rfl

/-- A position as a number. -/
def posOf (n : ℕ) : EReal := FloatOps.sitofp (F := Ideal) FTy.f32 (BitVec.ofNat 32 n)

/-- One of four by the group of a column. -/
def byGrp (a b c d : EReal) (g : ℕ) : EReal := if g = 0 then a else if g = 1 then b else if g = 2 then c else d

/-- The width of a column's window. -/
def widthOf (g : ℕ) : EReal := byGrp (Ideal.ofBits FTy.f32 0x40000000#32) (Ideal.ofBits FTy.f32 0x40800000#32) (Ideal.ofBits FTy.f32 0x41000000#32) (Ideal.ofBits FTy.f32 0x41800000#32) g

/-- A column seen `n` rows earlier in the sequence, zero before its start. -/
def ago (u : Fin 2048 → EReal) (s : Fin 2048) (n : ℕ) : EReal := if _h : n ≤ s.val then u ⟨s.val - n, by omega⟩ else 0

/-- The trailing sum of a column over the window of its group. -/
def wsum (u : Fin 2048 → EReal) (s : Fin 2048) (g : ℕ) : EReal :=
  byGrp (tsum (ago u s) 1) (tsum (ago u s) 3) (tsum (ago u s) 7) (tsum (ago u s) 15) g

/-- A column less its trailing mean, sign turned. -/
def pooled (u : Fin 2048 → EReal) (s : Fin 2048) (g : ℕ) : EReal :=
  Ideal.div (wsum u s g) (min (posOf s.val + 1) (widthOf g)) - u s

end Cert.Model
-- ==== Proof.InKern.lean ====
module

public import proofs.«01_k».proof.Proof.Gen.Kernel2Ideal.Skeleton
public import proofs.«01_k».proof.Proof.Model2
public import Idealize.ShloMosaic.Lib.Pipeline.ValueKit
public import Idealize.ShloMosaic.Lib.Pointwise

@[expose] public section
set_option backward.proofsInPublic true
set_option maxRecDepth 16384
noncomputable section
namespace Cert.Kernel2Ideal.In
open Cert.Kernel2Ideal Cert.Kernel2Ideal.Gen Idealize.ShloMosaic Idealize.ShloMosaic.TcCoe Idealize.SL.Sem Cert.Model

theorem pay2_at (x : Vec Ideal S1024x1024 .f32) (g : Vec Ideal S1x1x1024 .f32) (r d : Fin 1024) :
    k0_pay2 x g (ix2 r d) = rms c1024 (fun k => x (ix2 r k)) (fun k => g (ix3 0 0 k)) d := by
  pointwise [k0_pay2]
  rfl

theorem pay8_at (h : FVec Ideal S1024x1024 .bf16) (w : Vec Ideal S1x1024x1024 .bf16) (r e : Fin 1024) :
    k0_pay8 h (k0_pay7 w) (constant S1024x1024 .f32 0x00000000#32) (ix2 r e) = ∑ k, h (ix2 r k) * w (ix3 0 k e) := by
  pointwise [k0_pay8, k0_pay7]

theorem pay9_at (h : FVec Ideal S1024x1024 .bf16) (w : Vec Ideal S1x1024x512 .bf16) (r : Fin 1024) (e : Fin 512) :
    k0_pay9 h w (ix2 r e) = ∑ k, h (ix2 r k) * w (ix3 0 k e) := by
  pointwise [k0_pay9]

theorem pay10_at (h : FVec Ideal S1024x1024 .bf16) (w : Vec Ideal S1x1024x512 .bf16) (r : Fin 1024) (e : Fin 512) :
    k0_pay10 h w (ix2 r e) = ∑ k, h (ix2 r k) * w (ix3 0 k e) := by
  pointwise [k0_pay10]

theorem pay11_at (h : FVec Ideal S1024x1024 .bf16) (w : Vec Ideal S1x1024x128 .bf16) (b : Vec Ideal S1x1x128 .f32) (r : Fin 1024) (e : Fin 128) :
    k0_pay11 h w b (ix2 r e) = (∑ k, h (ix2 r k) * w (ix3 0 k e)) + b (ix3 0 0 e) := by
  pointwise [k0_pay11]

theorem pay12_at (h : FVec Ideal S1024x1024 .bf16) (w : Vec Ideal S1x1024x768 .bf16) (r : Fin 1024) (e : Fin 768) :
    k0_pay12 h w (ix2 r e) = ∑ k, h (ix2 r k) * w (ix3 0 k e) := by
  pointwise [k0_pay12]

theorem pay32_at (h : FVec Ideal S1024x1024 .bf16) (w : Vec Ideal S1x1024x256 .bf16) (r : Fin 1024) (e : Fin 256) :
    k0_pay32 h w (ix2 r e) = ∑ k, h (ix2 r k) * w (ix3 0 k e) := by
  pointwise [k0_pay32]

theorem pay33_at (h : FVec Ideal S1024x1024 .bf16) (w : Vec Ideal S1x1024x256 .bf16) (r : Fin 1024) (e : Fin 256) :
    k0_pay33 h w (ix2 r e) = ∑ k, h (ix2 r k) * w (ix3 0 k e) := by
  pointwise [k0_pay33, k0_pay32]

theorem pay14_at (e : Vec Ideal S1032x1024 .f32) (w : Vec Ideal S1x4x1024 .f32) (b : Vec Ideal S1x1x1024 .f32) (r j : Fin 1024) :
    k0_pay14 e (k0_pay13 w) b (ix2 r j) = siluk (conv4 (b (ix3 0 0 j)) (w (ix3 0 0 j)) (w (ix3 0 1 j)) (w (ix3 0 2 j)) (w (ix3 0 3 j))
      (e (ix2 ⟨8 + r.val, by omega⟩ j)) (e (ix2 ⟨7 + r.val, by omega⟩ j)) (e (ix2 ⟨6 + r.val, by omega⟩ j)) (e (ix2 ⟨5 + r.val, by omega⟩ j))) := by
  pointwise [k0_pay14, k0_pay13]
  have h1 : (⟨(8 + r.val + 1032 - 1) % 1032, Nat.mod_lt _ (by decide)⟩ : Fin 1032) = ⟨7 + r.val, by omega⟩ := Fin.ext (by show (8 + r.val + 1032 - 1) % 1032 = 7 + r.val; omega)
  have h2 : (⟨(8 + r.val + 1032 - 2) % 1032, Nat.mod_lt _ (by decide)⟩ : Fin 1032) = ⟨6 + r.val, by omega⟩ := Fin.ext (by show (8 + r.val + 1032 - 2) % 1032 = 6 + r.val; omega)
  have h3 : (⟨(8 + r.val + 1032 - 3) % 1032, Nat.mod_lt _ (by decide)⟩ : Fin 1032) = ⟨5 + r.val, by omega⟩ := Fin.ext (by show (8 + r.val + 1032 - 3) % 1032 = 5 + r.val; omega)
  rw [h1, h2, h3]
  rfl

theorem pay15_at (e : Vec Ideal S1032x1024 .f32) (w : FVec Ideal S4x1024 .f32) (b : Vec Ideal S1x1x1024 .f32) (r : Fin 1024) (j : Fin 512) :
    k0_pay15 e w b (ix2 r j) = k0_pay14 e w b (ix2 r ⟨j.val, by omega⟩) := by
  unfold k0_pay15
  generalize k0_pay14 e w b = a
  pointwise []

theorem pay16_at (e : Vec Ideal S1032x1024 .f32) (w : FVec Ideal S4x1024 .f32) (b : Vec Ideal S1x1x1024 .f32) (r : Fin 1024) (j : Fin 512) :
    k0_pay16 e w b (ix2 r j) = k0_pay14 e w b (ix2 r ⟨512 + j.val, by omega⟩) * kscale := by
  unfold k0_pay16
  generalize k0_pay14 e w b = a
  pointwise []
  rfl

theorem lane_slt : ∀ j : Fin 128, IntOp.cmpi .slt (BitVec.ofNat 32 j.val) 4#32 = if j.val < 4 then 1#1 else 0#1 := by decide +kernel

theorem pay17_at (a : FVec Ideal S1024x128 .f32) (r : Fin 1024) (j : Fin 128) :
    k0_pay17 a (iota .tc S1024x128 32 [1] iota_S1024x128_d1_w32) 4#32 (ix2 r j) = if j.val < 4 then a (ix2 r j) else lsigk (a (ix2 r j)) := by
  pointwise [k0_pay17]
  rw [lane_slt]
  by_cases h : j.val < 4
  · rw [if_pos h, if_pos h]; rfl
  · rw [if_neg h, if_neg h]; rfl

theorem pay34_at (e : Vec Ideal S1040x256 .f32) (q : ℕ) (hq : q < 1040) (h : 1 ≤ q) (j : Fin 256) :
    k0_pay34 e (ix2 ⟨q, hq⟩ j) = e (ix2 ⟨q, hq⟩ j) + e (ix2 ⟨q - 1, by omega⟩ j) := by
  pointwise [k0_pay34]
  have h1 : (⟨(q + 1040 - 1) % 1040, Nat.mod_lt _ (by decide)⟩ : Fin 1040) = ⟨q - 1, by omega⟩ := Fin.ext (by show (q + 1040 - 1) % 1040 = q - 1; omega)
  rw [h1]

theorem pay36_at (e : Vec Ideal S1040x256 .f32) (q : ℕ) (hq : q < 1040) (h : 2 ≤ q) (j : Fin 256) :
    k0_pay36 e (ix2 ⟨q, hq⟩ j) = k0_pay34 e (ix2 ⟨q, hq⟩ j) + k0_pay34 e (ix2 ⟨q - 2, by omega⟩ j) := by
  unfold k0_pay36
  generalize k0_pay34 e = a
  pointwise []
  have h1 : (⟨(q + 1040 - 2) % 1040, Nat.mod_lt _ (by decide)⟩ : Fin 1040) = ⟨q - 2, by omega⟩ := Fin.ext (by show (q + 1040 - 2) % 1040 = q - 2; omega)
  rw [h1]

theorem pay38_at (e : Vec Ideal S1040x256 .f32) (q : ℕ) (hq : q < 1040) (h : 4 ≤ q) (j : Fin 256) :
    k0_pay38 e (ix2 ⟨q, hq⟩ j) = k0_pay36 e (ix2 ⟨q, hq⟩ j) + k0_pay36 e (ix2 ⟨q - 4, by omega⟩ j) := by
  unfold k0_pay38
  generalize k0_pay36 e = a
  pointwise []
  have h1 : (⟨(q + 1040 - 4) % 1040, Nat.mod_lt _ (by decide)⟩ : Fin 1040) = ⟨q - 4, by omega⟩ := Fin.ext (by show (q + 1040 - 4) % 1040 = q - 4; omega)
  rw [h1]

theorem pay35_at (e : Vec Ideal S1040x256 .f32) (r : Fin 1024) (j : Fin 256) : k0_pay35 e (ix2 r j) = k0_pay34 e (ix2 ⟨16 + r.val, by omega⟩ j) := by
  unfold k0_pay35
  generalize k0_pay34 e = a
  pointwise []

theorem pay37_at (e : Vec Ideal S1040x256 .f32) (r : Fin 1024) (j : Fin 256) : k0_pay37 e (ix2 r j) = k0_pay36 e (ix2 ⟨16 + r.val, by omega⟩ j) := by
  unfold k0_pay37
  generalize k0_pay36 e = a
  pointwise []

theorem pay39_at (e : Vec Ideal S1040x256 .f32) (r : Fin 1024) (j : Fin 256) : k0_pay39 e (ix2 r j) = k0_pay38 e (ix2 ⟨16 + r.val, by omega⟩ j) := by
  unfold k0_pay39
  generalize k0_pay38 e = a
  pointwise []

theorem pay40_at (e : Vec Ideal S1040x256 .f32) (r : Fin 1024) (j : Fin 256) :
    k0_pay40 e (ix2 r j) = k0_pay38 e (ix2 ⟨16 + r.val, by omega⟩ j) + k0_pay38 e (ix2 ⟨8 + r.val, by omega⟩ j) := by
  unfold k0_pay40
  generalize k0_pay38 e = a
  pointwise []
  have h1 : (⟨(16 + r.val + 1040 - 8) % 1040, Nat.mod_lt _ (by decide)⟩ : Fin 1040) = ⟨8 + r.val, by omega⟩ := Fin.ext (by show (16 + r.val + 1040 - 8) % 1040 = 8 + r.val; omega)
  rw [h1]

/-- The rows of column `j` that end `n` above row `r` of a tile. -/
def up (e : Vec Ideal S1040x256 .f32) (r : Fin 1024) (j : Fin 256) (n : ℕ) : EReal := e (ix2 ⟨(16 + r.val) - n, by omega⟩ j)

theorem sum2_at (e : Vec Ideal S1040x256 .f32) (r : Fin 1024) (j : Fin 256) : k0_pay35 e (ix2 r j) = tsum (up e r j) 1 := by
  rw [pay35_at, pay34_at _ _ _ (by omega)]; rfl

theorem p34_up (e : Vec Ideal S1040x256 .f32) (r : Fin 1024) (j : Fin 256) (n : ℕ) (hn : n ≤ 14) :
    k0_pay34 e (ix2 ⟨16 + r.val - n, by omega⟩ j) = up e r j n + up e r j (n + 1) := by
  rw [pay34_at _ _ _ (by omega)]; rfl

theorem p36_up (e : Vec Ideal S1040x256 .f32) (r : Fin 1024) (j : Fin 256) (n : ℕ) (hn : n ≤ 12) :
    k0_pay36 e (ix2 ⟨16 + r.val - n, by omega⟩ j) = up e r j n + up e r j (n + 1) + (up e r j (n + 2) + up e r j (n + 3)) := by
  rw [pay36_at _ _ _ (by omega), p34_up _ _ _ _ (by omega)]
  exact congrArg _ (p34_up e r j (n + 2) (by omega))

theorem p38_up (e : Vec Ideal S1040x256 .f32) (r : Fin 1024) (j : Fin 256) (n : ℕ) (hn : n ≤ 8) :
    k0_pay38 e (ix2 ⟨16 + r.val - n, by omega⟩ j) = up e r j n + up e r j (n + 1) + (up e r j (n + 2) + up e r j (n + 3))
      + (up e r j (n + 4) + up e r j (n + 5) + (up e r j (n + 6) + up e r j (n + 7))) := by
  rw [pay38_at _ _ _ (by omega), p36_up _ _ _ _ (by omega)]
  exact congrArg _ (p36_up e r j (n + 4) (by omega))

theorem sum4_at (e : Vec Ideal S1040x256 .f32) (r : Fin 1024) (j : Fin 256) : k0_pay37 e (ix2 r j) = tsum (up e r j) 3 := by
  rw [pay37_at]; refine (p36_up e r j 0 (by omega)).trans ?_
  simp only [tsum_succ, tsum_zero, Nat.zero_add, Nat.reduceAdd]; ac_rfl

theorem sum8_at (e : Vec Ideal S1040x256 .f32) (r : Fin 1024) (j : Fin 256) : k0_pay39 e (ix2 r j) = tsum (up e r j) 7 := by
  rw [pay39_at]; refine (p38_up e r j 0 (by omega)).trans ?_
  simp only [tsum_succ, tsum_zero, Nat.zero_add, Nat.reduceAdd]; ac_rfl

theorem sum16_at (e : Vec Ideal S1040x256 .f32) (r : Fin 1024) (j : Fin 256) : k0_pay40 e (ix2 r j) = tsum (up e r j) 15 := by
  rw [pay40_at]
  have e8 : (⟨8 + r.val, by omega⟩ : Fin 1040) = ⟨16 + r.val - 8, by omega⟩ := Fin.ext (by show 8 + r.val = 16 + r.val - 8; omega)
  rw [e8]
  refine (congrArg₂ (· + ·) (p38_up e r j 0 (by omega)) (p38_up e r j 8 (by omega))).trans ?_
  simp only [tsum_succ, tsum_zero, Nat.zero_add, Nat.reduceAdd]; ac_rfl

theorem lane_grp : ∀ j : Fin 256, Scalar.select
      (IntOp.andi
        (IntOp.cmpi CmpIPredicate.ne
          (IntOp.subi (BitVec.setWidth 32 (IntOp.cmpi CmpIPredicate.sgt (BitVec.ofNat 32 ↑j) 0#32))
            (BitVec.setWidth 32 (IntOp.cmpi CmpIPredicate.slt (BitVec.ofNat 32 ↑j) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 ↑j) 64#32) 0#32))
      (IntOp.subi (IntOp.divsi ArithUnit.vector (BitVec.ofNat 32 ↑j) 64#32) 1#32)
      (IntOp.divsi ArithUnit.vector (BitVec.ofNat 32 ↑j) 64#32) =
    BitVec.ofNat 32 (↑j / 64) := by decide +kernel

theorem pay44_at (r : Fin 1024) (j : Fin 256) :
    k0_pay44 (iota .tc S1024x256 32 [1] iota_S1024x256_d1_w32) 64#32 k0_pay41 k0_pay42 k0_pay43 (ix2 r j) = BitVec.ofNat 32 (j.val / 64) := by
  pointwise [k0_pay44, k0_pay41, k0_pay42, k0_pay43]
  exact lane_grp j

theorem pay45_at (n : ℕ) (r : Fin 1024) (j : Fin 256) :
    k0_pay45 (F := Ideal) (BitVec.ofNat 32 n) (ix2 r j) = posOf (n * 1024 + r.val) := by
  pointwise [k0_pay45]
  unfold posOf
  congr 1
  show BitVec.ofNat 32 n * 1024#32 + BitVec.ofNat 32 r.val = _
  rw [BitVec.ofNat_add, BitVec.ofNat_mul]

theorem sel_grp (a b c d : EReal) : ∀ g : Fin 4, Scalar.select (IntOp.cmpi CmpIPredicate.eq (BitVec.ofNat 32 g.val) 0#32) a
      (Scalar.select (IntOp.cmpi CmpIPredicate.eq (BitVec.ofNat 32 g.val) 1#32) b
        (Scalar.select (IntOp.cmpi CmpIPredicate.eq (BitVec.ofNat 32 g.val) 2#32) c d)) = byGrp a b c d g.val := by
  intro g; fin_cases g <;> rfl

theorem pay46_at (a b c d : FVec Ideal S1024x256 .f32) (r : Fin 1024) (j : Fin 256) :
    k0_pay46 a b c d (iota .tc S1024x256 32 [1] iota_S1024x256_d1_w32) 64#32 k0_pay41 k0_pay42 k0_pay43 (ix2 r j)
      = byGrp (a (ix2 r j)) (b (ix2 r j)) (c (ix2 r j)) (d (ix2 r j)) (j.val / 64) := by
  have h := pay44_at r j
  unfold k0_pay46
  generalize k0_pay44 (iota .tc S1024x256 32 [1] iota_S1024x256_d1_w32) 64#32 k0_pay41 k0_pay42 k0_pay43 = g at h ⊢
  pointwise []
  rw [h]
  exact sel_grp _ _ _ _ ⟨j.val / 64, by omega⟩

theorem pay47_at (r : Fin 1024) (j : Fin 256) :
    k0_pay47 (F := Ideal) (iota .tc S1024x256 32 [1] iota_S1024x256_d1_w32) 64#32 k0_pay41 k0_pay42 k0_pay43 (ix2 r j) = widthOf (j.val / 64) := by
  have h := pay44_at r j
  unfold k0_pay47
  generalize k0_pay44 (iota .tc S1024x256 32 [1] iota_S1024x256_d1_w32) 64#32 k0_pay41 k0_pay42 k0_pay43 = g at h ⊢
  pointwise []
  rw [h]
  exact sel_grp _ _ _ _ ⟨j.val / 64, by omega⟩

/-- The factor of the stick-breaking queries. -/
def sbscale : EReal := (Named.named (F := Ideal) (φ := .f32) κ "sb_scale" 0x3E38AA3B#32 : Ideal .f32)

theorem pay18_at (v : FVec Ideal S1024x768 .f32) (r : Fin 1024) (j : Fin 64) :
    k0_pay18 v (ix3 0 r j) = v (ix2 r ⟨j.val, by omega⟩) * sbscale := by
  pointwise [k0_pay18]
  rfl

theorem pay21_at (v : FVec Ideal S1024x768 .f32) (r : Fin 1024) (j : Fin 64) :
    k0_pay21 v (ix3 0 r j) = v (ix2 r ⟨64 + j.val, by omega⟩) * sbscale := by
  pointwise [k0_pay21]
  rfl

theorem pay25_at (v : FVec Ideal S1024x768 .f32) (r : Fin 1024) (j : Fin 64) :
    k0_pay25 v (ix3 0 r j) = v (ix2 r ⟨128 + j.val, by omega⟩) * sbscale := by
  pointwise [k0_pay25]
  rfl

theorem pay28_at (v : FVec Ideal S1024x768 .f32) (r : Fin 1024) (j : Fin 64) :
    k0_pay28 v (ix3 0 r j) = v (ix2 r ⟨192 + j.val, by omega⟩) * sbscale := by
  pointwise [k0_pay28]
  rfl

theorem pay19_at (v : FVec Ideal S1024x768 .f32) (r : Fin 1024) (j : Fin 64) :
    k0_pay19 v (ix3 0 r j) = v (ix2 r ⟨256 + j.val, by omega⟩) := by
  pointwise [k0_pay19]

theorem pay23_at (v : FVec Ideal S1024x768 .f32) (r : Fin 1024) (j : Fin 64) :
    k0_pay23 (k0_pay22 v) (ix3 0 r j) = v (ix2 r ⟨320 + j.val, by omega⟩) := by
  pointwise [k0_pay23, k0_pay22]

theorem pay26_at (v : FVec Ideal S1024x768 .f32) (r : Fin 1024) (j : Fin 64) :
    k0_pay26 v (ix3 0 r j) = v (ix2 r ⟨384 + j.val, by omega⟩) := by
  pointwise [k0_pay26]

theorem pay30_at (v : FVec Ideal S1024x768 .f32) (r : Fin 1024) (j : Fin 64) :
    k0_pay30 (k0_pay29 v) (ix3 0 r j) = v (ix2 r ⟨448 + j.val, by omega⟩) := by
  pointwise [k0_pay30, k0_pay29]

theorem pay20_at (v : FVec Ideal S1024x768 .f32) (r : Fin 1024) (j : Fin 64) :
    k0_pay20 v (ix3 0 r j) = v (ix2 r ⟨512 + j.val, by omega⟩) := by
  pointwise [k0_pay20]

theorem pay24_at (v : FVec Ideal S1024x768 .f32) (r : Fin 1024) (j : Fin 64) :
    k0_pay24 v (ix3 0 r j) = v (ix2 r ⟨576 + j.val, by omega⟩) := by
  pointwise [k0_pay24]

theorem pay27_at (v : FVec Ideal S1024x768 .f32) (r : Fin 1024) (j : Fin 64) :
    k0_pay27 v (ix3 0 r j) = v (ix2 r ⟨640 + j.val, by omega⟩) := by
  pointwise [k0_pay27]

theorem pay31_at (v : FVec Ideal S1024x768 .f32) (r : Fin 1024) (j : Fin 64) :
    k0_pay31 v (ix3 0 r j) = v (ix2 r ⟨704 + j.val, by omega⟩) := by
  pointwise [k0_pay31]

theorem pay1_at (u p s w : FVec Ideal S1024x256 .f32) (pw : Vec Ideal S1x256x256 .bf16) (ps pg : Vec Ideal S1x1x256 .f32) (one : EReal) (r : Fin 1024) (j : Fin 256) :
    k0_pay1 u p s w one pw ps pg (ix2 r j)
      = rms c256 (fun e => (∑ k : Fin 256, (Ideal.div (s (ix2 r k)) (min (p (ix2 r k) + one) (w (ix2 r k))) - u (ix2 r k)) * pw (ix3 0 k e)) * ps (ix3 0 0 e)) (fun e => pg (ix3 0 0 e)) j := by
  pointwise [k0_pay1]
  rfl

end Cert.Kernel2Ideal.In
-- ==== Proof.InVoc.lean ====
module

public import proofs.«01_k».proof.Proof.Gen.Kernel2Ideal.Frame
public import Idealize.ShloMosaic.Lib.Pipeline.ValueKit
public import Idealize.ShloMosaic.Lib.Pipeline.ReadBack

@[expose] public section
set_option maxRecDepth 16384
noncomputable section
namespace Cert.Kernel2Ideal.In
open Cert.Kernel2Ideal Cert.Kernel2Ideal.Gen Idealize.ShloMosaic Idealize.ShloMosaic.TcCoe Idealize.SL.Sem

variable {F : FTy → Type} [FloatOps F] [Named F]

/-- A store of all but the first eight rows over one of those. -/
def EXTQ (u : Vec F S1024x1024 .f32) (g : Vec F S8x1024 .f32) : Vec F S1032x1024 .f32 :=
  View.canon [⟨(Rect.unit (s := S1032x1024) ![8, 0] ![1024, 1024] inb_S1032x1024_S1024x1024_8_0), u⟩, ⟨(Rect.unit (s := S1032x1024) ![0, 0] ![8, 1024] inb_S1032x1024_S8x1024_0_0), g⟩]

/-- A store of all but the first sixteen rows over one of those. -/
def EXTU (u : Vec F S1024x256 .f32) (g : Vec F S16x256 .f32) : Vec F S1040x256 .f32 :=
  View.canon [⟨(Rect.unit (s := S1040x256) ![16, 0] ![1024, 256] inb_S1040x256_S1024x256_16_0), u⟩, ⟨(Rect.unit (s := S1040x256) ![0, 0] ![16, 256] inb_S1040x256_S16x256_0_0), g⟩]

/-- Four heads, stored one after the other. -/
def HEADS (p0 p1 p2 p3 : Vec F S1x1024x64 .bf16) : Vec F S4x1024x64 .bf16 :=
  View.canon [⟨(Rect.unit (s := S4x1024x64) ![3, 0, 0] ![1, 1024, 64] inb_S4x1024x64_S1x1024x64_3_0_0), p3⟩, ⟨(Rect.unit (s := S4x1024x64) ![2, 0, 0] ![1, 1024, 64] inb_S4x1024x64_S1x1024x64_2_0_0), p2⟩,
    ⟨(Rect.unit (s := S4x1024x64) ![1, 0, 0] ![1, 1024, 64] inb_S4x1024x64_S1x1024x64_1_0_0), p1⟩, ⟨(Rect.unit (s := S4x1024x64) ![0, 0, 0] ![1, 1024, 64] inb_S4x1024x64_S1x1024x64_0_0_0), p0⟩]

/-- The normed rows. -/
def HH (x0 : Vec F S1024x1024 .f32) (x1 : Vec F S1x1x1024 .f32) : FVec F S1024x1024 .bf16 := k0_pay2 (View.ld x0 (Rect.unit (s := S1024x1024) ![0, 0] ![1024, 1024] inb_S1024x1024_S1024x1024_0_0)) (View.ld x1 (Rect.unit (s := S1x1x1024) ![0, 0, 0] ![1, 1, 1024] inb_S1x1x1024_S1x1x1024_0_0_0))

/-- The columns that go through the convolution. -/
def QKB (x0 : Vec F S1024x1024 .f32) (x1 : Vec F S1x1x1024 .f32) (x2 : Vec F S1x1024x2048 .bf16) : FVec F S1024x1024 .f32 :=
  k0_pay8 (HH x0 x1) (k0_pay7 (View.ld x2 (Rect.unit (s := S1x1024x2048) ![0, 0, 0] ![1, 1024, 1024] inb_S1x1024x2048_S1x1024x1024_0_0_0))) (constant S1024x1024 .f32 0x00000000#32)

/-- The three times four heads side by side. -/
def SBB (x0 : Vec F S1024x1024 .f32) (x1 : Vec F S1x1x1024 .f32) (x3 : Vec F S1x1024x1024 .bf16) : FVec F S1024x768 .f32 := k0_pay12 (HH x0 x1) (View.ld x3 (Rect.unit (s := S1x1024x1024) ![0, 0, 0] ![1, 1024, 768] inb_S1x1024x1024_S1x1024x768_0_0_0))

/-- The pooled columns as stored. -/
def UB (x0 : Vec F S1024x1024 .f32) (x1 : Vec F S1x1x1024 .f32) (x3 : Vec F S1x1024x1024 .bf16) : FVec F S1024x256 .f32 := k0_pay33 (HH x0 x1) (View.ld x3 (Rect.unit (s := S1x1024x1024) ![0, 0, 768] ![1, 1024, 256] inb_S1x1024x1024_S1x1024x256_0_0_768))

/-- The rows before a tile, out of what the tile before left. -/
def HALQ (xs0 : Vec F S1032x1024 .f32) : FVec F S8x1024 .f32 := k0_pay5 (View.ld xs0 (Rect.unit (s := S1032x1024) ![1024, 0] ![8, 1024] inb_S1032x1024_S8x1024_1024_0))
def HALU (xs1 : Vec F S1040x256 .f32) : FVec F S16x256 .f32 := k0_pay6 (View.ld xs1 (Rect.unit (s := S1040x256) ![1024, 0] ![16, 256] inb_S1040x256_S16x256_1024_0))

/-- What a tile leaves in each of the nine results. -/
def OQ (x0 : Vec F S1024x1024 .f32) (x1 : Vec F S1x1x1024 .f32) (x2 : Vec F S1x1024x2048 .bf16) (x5 : Vec F S1x4x1024 .f32) (x6 : Vec F S1x1x1024 .f32) (g : FVec F S8x1024 .f32) : Vec F S1024x512 .bf16 :=
  k0_pay15 (EXTQ (QKB x0 x1 x2) g) (k0_pay13 (View.ld x5 (Rect.unit (s := S1x4x1024) ![0, 0, 0] ![1, 4, 1024] inb_S1x4x1024_S1x4x1024_0_0_0))) (View.ld x6 (Rect.unit (s := S1x1x1024) ![0, 0, 0] ![1, 1, 1024] inb_S1x1x1024_S1x1x1024_0_0_0))
def OK (x0 : Vec F S1024x1024 .f32) (x1 : Vec F S1x1x1024 .f32) (x2 : Vec F S1x1024x2048 .bf16) (x5 : Vec F S1x4x1024 .f32) (x6 : Vec F S1x1x1024 .f32) (g : FVec F S8x1024 .f32) : Vec F S1024x512 .bf16 :=
  k0_pay16 (EXTQ (QKB x0 x1 x2) g) (k0_pay13 (View.ld x5 (Rect.unit (s := S1x4x1024) ![0, 0, 0] ![1, 4, 1024] inb_S1x4x1024_S1x4x1024_0_0_0))) (View.ld x6 (Rect.unit (s := S1x1x1024) ![0, 0, 0] ![1, 1, 1024] inb_S1x1x1024_S1x1x1024_0_0_0))
def OV (x0 : Vec F S1024x1024 .f32) (x1 : Vec F S1x1x1024 .f32) (x2 : Vec F S1x1024x2048 .bf16) : Vec F S1024x512 .bf16 := k0_pay9 (HH x0 x1) (View.ld x2 (Rect.unit (s := S1x1024x2048) ![0, 0, 1024] ![1, 1024, 512] inb_S1x1024x2048_S1x1024x512_0_0_1024))
def OO (x0 : Vec F S1024x1024 .f32) (x1 : Vec F S1x1x1024 .f32) (x2 : Vec F S1x1024x2048 .bf16) : Vec F S1024x512 .bf16 := k0_pay10 (HH x0 x1) (View.ld x2 (Rect.unit (s := S1x1024x2048) ![0, 0, 1536] ![1, 1024, 512] inb_S1x1024x2048_S1x1024x512_0_0_1536))
def OG (x0 : Vec F S1024x1024 .f32) (x1 : Vec F S1x1x1024 .f32) (x4 : Vec F S1x1024x128 .bf16) (x7 : Vec F S1x1x128 .f32) : Vec F S1024x128 .f32 :=
  k0_pay17 (k0_pay11 (HH x0 x1) (View.ld x4 (Rect.unit (s := S1x1024x128) ![0, 0, 0] ![1, 1024, 128] inb_S1x1024x128_S1x1024x128_0_0_0)) (View.ld x7 (Rect.unit (s := S1x1x128) ![0, 0, 0] ![1, 1, 128] inb_S1x1x128_S1x1x128_0_0_0))) (iota .tc S1024x128 32 [1] iota_S1024x128_d1_w32) 4#32
def OQS (x0 : Vec F S1024x1024 .f32) (x1 : Vec F S1x1x1024 .f32) (x3 : Vec F S1x1024x1024 .bf16) : Vec F S4x1024x64 .bf16 := HEADS (k0_pay18 (SBB x0 x1 x3)) (k0_pay21 (SBB x0 x1 x3)) (k0_pay25 (SBB x0 x1 x3)) (k0_pay28 (SBB x0 x1 x3))
def OKS (x0 : Vec F S1024x1024 .f32) (x1 : Vec F S1x1x1024 .f32) (x3 : Vec F S1x1024x1024 .bf16) : Vec F S4x1024x64 .bf16 := HEADS (k0_pay19 (SBB x0 x1 x3)) (k0_pay23 (k0_pay22 (SBB x0 x1 x3))) (k0_pay26 (SBB x0 x1 x3)) (k0_pay30 (k0_pay29 (SBB x0 x1 x3)))
def OVS (x0 : Vec F S1024x1024 .f32) (x1 : Vec F S1x1x1024 .f32) (x3 : Vec F S1x1024x1024 .bf16) : Vec F S4x1024x64 .bf16 := HEADS (k0_pay20 (SBB x0 x1 x3)) (k0_pay24 (SBB x0 x1 x3)) (k0_pay27 (SBB x0 x1 x3)) (k0_pay31 (SBB x0 x1 x3))
/-- The number of a tile within its sequence. -/
def TW (i : grid0.Coords) : BitVec 32 :=
  (Scalar.select
                (Scalar.andi
                  (Scalar.xori (Scalar.cmpi CmpIPredicate.slt (Scalar.remsi (BitVec.ofNat 32 (i 0).val) 2#32) 0#32) 0#1)
                  (Scalar.cmpi CmpIPredicate.ne (Scalar.remsi (BitVec.ofNat 32 (i 0).val) 2#32) 0#32))
                (Scalar.addi (Scalar.remsi (BitVec.ofNat 32 (i 0).val) 2#32) 2#32)
                (Scalar.remsi (BitVec.ofNat 32 (i 0).val) 2#32))
def OY (i : grid0.Coords) (x0 : Vec F S1024x1024 .f32) (x1 : Vec F S1x1x1024 .f32) (x3 : Vec F S1x1024x1024 .bf16) (x8 : Vec F S1x256x256 .bf16) (x9 : Vec F S1x1x256 .f32) (x10 : Vec F S1x1x256 .f32) (g : FVec F S16x256 .f32) : Vec F S1024x256 .bf16 :=
  k0_pay1 (k0_pay32 (HH x0 x1) (View.ld x3 (Rect.unit (s := S1x1024x1024) ![0, 0, 768] ![1, 1024, 256] inb_S1x1024x1024_S1x1024x256_0_0_768))) (k0_pay45 (TW i))
    (k0_pay46 (k0_pay35 (EXTU (UB x0 x1 x3) g)) (k0_pay37 (EXTU (UB x0 x1 x3) g)) (k0_pay39 (EXTU (UB x0 x1 x3) g)) (k0_pay40 (EXTU (UB x0 x1 x3) g))
      (iota .tc S1024x256 32 [1] iota_S1024x256_d1_w32) 64#32 k0_pay41 k0_pay42 k0_pay43)
    (k0_pay47 (iota .tc S1024x256 32 [1] iota_S1024x256_d1_w32) 64#32 k0_pay41 k0_pay42 k0_pay43) (Scalar.ofBits .f32 0x3F800000#32)
    (View.ld x8 (Rect.unit (s := S1x256x256) ![0, 0, 0] ![1, 256, 256] inb_S1x256x256_S1x256x256_0_0_0)) (View.ld x9 (Rect.unit (s := S1x1x256) ![0, 0, 0] ![1, 1, 256] inb_S1x1x256_S1x1x256_0_0_0)) (View.ld x10 (Rect.unit (s := S1x1x256) ![0, 0, 0] ![1, 1, 256] inb_S1x1x256_S1x1x256_0_0_0))

theorem whole_read2 {sig : RefSig} {κ : Kind} {sp : Space} {e : EltTy} {n m : ℕ} (v : View sig κ sp ⟨2, ![n, m]⟩ e) (L : List (View.Piece (Elt F) ⟨2, ![n, m]⟩ e)) (h) :
    v.readCov (Val := Elt F) L (Rect.unit (s := ⟨2, ![n, m]⟩) ![0, 0] ![n, m] h).toLoadRect = View.canon L := by
  rw [View.readCov_eq_canon']
  funext j
  congr 1
  funext a
  apply Fin.ext
  fin_cases a
  · show 0 + 1 * (j 0).val = (j 0).val; omega
  · show 0 + 1 * (j 1).val = (j 1).val; omega

end Cert.Kernel2Ideal.In
-- ==== Proof.Blocks2.lean ====
module

public import proofs.«01_k».proof.Proof.Gen.Kernel2Ideal.Value
public import Idealize.ShloMosaic.Lib.Pipeline.ValueKit
public import Idealize.ShloMosaic.Lib.Pointwise

@[expose] public section
set_option backward.proofsInPublic true
set_option maxRecDepth 16384
noncomputable section
namespace Cert.Kernel2Ideal.In
open Cert.Kernel2Ideal Cert.Kernel2Ideal.Gen Idealize.ShloMosaic Idealize.ShloMosaic.TcCoe Idealize.SL.Sem

variable (m : (ℓ : Loc nD τ sig) → Buf (Elt Ideal) ℓ)

/-- The blocks of the tokens' window: one tile of rows per point. -/
theorem idx : ∀ t : Fin cfg0.N, (win0_0.index t 0 = t.val ∧ win0_0.index t 1 = 0) :=
  (by decide +kernel : ∀ t : Fin grid0.N, _)

/-- The blocks of the weights' windows: the first layer's, at every point. -/
theorem idxw : ∀ t : Fin cfg0.N,
    (win0_1.index t 0 = 0 ∧ win0_1.index t 1 = 0 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0)
    ∧ (win0_8.index t 0 = 0 ∧ win0_8.index t 1 = 0 ∧ win0_8.index t 2 = 0)
    ∧ (win0_9.index t 0 = 0 ∧ win0_9.index t 1 = 0 ∧ win0_9.index t 2 = 0)
    ∧ (win0_10.index t 0 = 0 ∧ win0_10.index t 1 = 0 ∧ win0_10.index t 2 = 0) :=
  (by decide +kernel : ∀ t : Fin grid0.N, _)

/-- The sequence a point's tile is of, and a row of the tile in it. -/
def bOf (t : Fin cfg0.N) : Fin 8 := ⟨t.val / 2, by have := lt_of_lt_of_eq t.isLt N_0; omega⟩
def sOf (t : Fin cfg0.N) (r : Fin 1024) : Fin 2048 := ⟨t.val % 2 * 1024 + r.val, by omega⟩

theorem blk0 (c : Dev nD) (t : Fin cfg0.N) (r : Fin 1024) (d : Fin 1024) : iblk m c 0 t (ix2 r d) = m ((c : Thread nD τ).loc main_arg0) (ix3 (bOf t) (sOf t r) d) := by
  have hN := lt_of_lt_of_eq t.isLt N_0
  unfold bOf sOf
  blk_simp [iblk, V, idx t]
  simp only [List.flatten_cons, List.flatten_nil, hostOps0, hostOps0_1, hostOps0_2, hostOps0_3, hostOps0_4, List.cons_append, List.nil_append, List.append_nil]
  entry_read
  pointwise
  blk_ext [idx t]
  all_goals omega

theorem blk1 (c : Dev nD) (t : Fin cfg0.N) (d : Fin 1024) : iblk m c 1 t (ix3 0 0 d) = m ((c : Thread nD τ).loc main_arg1) (ix2 0 d) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  blk_ext [idxw t]
  all_goals omega

theorem blk2 (c : Dev nD) (t : Fin cfg0.N) (k : Fin 1024) (e : Fin 2048) : iblk m c 2 t (ix3 0 k e) = m ((c : Thread nD τ).loc main_arg2) (ix3 0 k ⟨e.val, by omega⟩) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  blk_ext [idxw t]
  all_goals omega

theorem blk3 (c : Dev nD) (t : Fin cfg0.N) (k : Fin 1024) (e : Fin 1024) : iblk m c 3 t (ix3 0 k e) = m ((c : Thread nD τ).loc main_arg2) (ix3 0 k ⟨2056 + e.val, by omega⟩) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  blk_ext [idxw t]
  all_goals omega

theorem zero_at : FloatOps.sitofp (F := Ideal) FTy.f32 (0#32 : BitVec 32) = (0 : EReal) := by
  change (((0#32 : BitVec 32).toInt : ℝ) : EReal) = 0
  simp

/-- The four groups' weights laid on the diagonal. -/
def bd (w : S2x4x64x64.Idx → EReal) (i : S2x256x256.Idx) : EReal :=
  w (ix4 (i 0) ⟨(i 1).val / 64, by have := (i 1).isLt; change _ < 256 at this; omega⟩ ⟨(i 1).val % 64, by omega⟩ ⟨(i 2).val % 64, by omega⟩) * FloatOps.uitofp (F := Ideal) FTy.f32 (IntOp.cmpi CmpIPredicate.eq (IntOp.addi (BitVec.ofNat 32 ((i 1).val / 64)) 0#32) (BitVec.ofNat 32 ((i 2).val / 64)))

theorem same_at : ∀ a b : Fin 4, IntOp.cmpi CmpIPredicate.eq (IntOp.addi (BitVec.ofNat 32 a.val) 0#32) (BitVec.ofNat 32 b.val) = if a = b then 1#1 else 0#1 := by decide

theorem bd_at (w : S2x4x64x64.Idx → EReal) (k e : Fin 256) :
    bd w (ix3 0 k e) = if k.val / 64 = e.val / 64 then w (ix4 0 ⟨k.val / 64, by omega⟩ ⟨k.val % 64, by omega⟩ ⟨e.val % 64, by omega⟩) else 0 := by
  have h := same_at ⟨k.val / 64, by omega⟩ ⟨e.val / 64, by omega⟩
  change _ * FloatOps.uitofp (F := Ideal) FTy.f32 (IntOp.cmpi CmpIPredicate.eq (IntOp.addi (BitVec.ofNat 32 (k.val / 64)) 0#32) (BitVec.ofNat 32 (e.val / 64))) = _
  dsimp only at h
  rw [h]
  by_cases hk : k.val / 64 = e.val / 64
  · rw [if_pos hk, if_pos (Fin.ext hk)]
    change w (ix4 0 ⟨k.val / 64, _⟩ ⟨k.val % 64, _⟩ ⟨e.val % 64, _⟩) * (((1#1 : BitVec 1).toNat : ℝ) : EReal) = _
    simp
  · rw [if_neg hk, if_neg (fun h' => hk (congrArg Fin.val h'))]
    change _ * (((0#1 : BitVec 1).toNat : ℝ) : EReal) = _
    simp

theorem blk4 (c : Dev nD) (t : Fin cfg0.N) (k : Fin 1024) (e : Fin 128) : iblk m c 4 t (ix3 0 k e) = if h : e.val < 8 then (m ((c : Thread nD τ).loc main_arg2) (ix3 0 k ⟨2048 + e.val, by omega⟩) : EReal) else (0 : EReal) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  have he : ∀ f : S2x1024x128.Idx → EReal, f (((View.whole main_v7).slice (win0_4.rect t)).emb (ix3 0 k e)) = f (ix3 0 k e) := by
    intro f
    blk_ext [idxw t]
  simp only [StableHlo.TRef.toBuf, StableHlo.TRef.ofBuf, cast_eq]
  refine (he _).trans ?_
  pointwise
  rw [zero_at]

theorem blk5 (c : Dev nD) (t : Fin cfg0.N) (k : Fin 4) (e : Fin 1024) : iblk m c 5 t (ix3 0 k e) = m ((c : Thread nD τ).loc main_arg3) (ix3 0 k e) := by
  have hN := lt_of_lt_of_eq t.isLt N_0
  blk_ext! [iblk, V, idxw t]
  all_goals omega

theorem blk6 (c : Dev nD) (t : Fin cfg0.N) (d : Fin 1024) : iblk m c 6 t (ix3 0 0 d) = m ((c : Thread nD τ).loc main_arg4) (ix2 0 d) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  blk_ext [idxw t]
  all_goals omega

theorem blk7 (c : Dev nD) (t : Fin cfg0.N) (e : Fin 128) : iblk m c 7 t (ix3 0 0 e) = if h : e.val < 4 then (m ((c : Thread nD τ).loc main_arg5) (ix2 0 ⟨e.val, h⟩) : EReal) else if h' : e.val < 8 then (m ((c : Thread nD τ).loc main_arg6) (ix2 0 ⟨e.val - 4, by omega⟩) : EReal) else (0 : EReal) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  have he0 : ((View.whole main_v10).slice (win0_7.rect t)).emb (ix3 0 0 e) 0 = (0 : Fin 2) := by
    apply Fin.ext
    simp [idxw t]
  have he2 : ((View.whole main_v10).slice (win0_7.rect t)).emb (ix3 0 0 e) 2 = (e : Fin 128) := by
    apply Fin.ext
    simp [idxw t]
  rw [he0, he2]
  simp only [StableHlo.TRef.toBuf, StableHlo.TRef.ofBuf, cast_eq]
  pointwise
  rw [zero_at]
  by_cases h : e.val < 8
  · rw [dif_pos h]
    by_cases h' : e.val < 4
    · rw [dif_pos h', dif_pos h']
    · rw [dif_neg h', dif_neg h', dif_pos h]
  · rw [dif_neg h, dif_neg (by omega), dif_neg h]

theorem blk8 (c : Dev nD) (t : Fin cfg0.N) (k e : Fin 256) : iblk m c 8 t (ix3 0 k e) = if k.val / 64 = e.val / 64 then (m ((c : Thread nD τ).loc main_arg7) (ix4 0 ⟨k.val / 64, by omega⟩ ⟨k.val % 64, by omega⟩ ⟨e.val % 64, by omega⟩) : EReal) else (0 : EReal) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  have he : ∀ f : S2x256x256.Idx → EReal, f (((View.whole main_v23).slice (win0_8.rect t)).emb (ix3 0 k e)) = f (ix3 0 k e) := by
    intro f
    blk_ext [idxw t]
  exact (he (bd (m (c, Proc.tc.devRef main_arg7)))).trans (bd_at _ k e)

theorem blk9 (c : Dev nD) (t : Fin cfg0.N) (d : Fin 256) : iblk m c 9 t (ix3 0 0 d) = m ((c : Thread nD τ).loc main_arg8) (ix2 0 d) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  blk_ext [idxw t]
  all_goals omega

theorem blk10 (c : Dev nD) (t : Fin cfg0.N) (d : Fin 256) : iblk m c 10 t (ix3 0 0 d) = m ((c : Thread nD τ).loc main_arg9) (ix2 0 d) := by
  have hN := lt_of_lt_of_eq t.isLt N_0
  blk_simp [iblk, V, idxw t]
  simp only [List.flatten_cons, List.flatten_nil, hostOps0, hostOps0_1, hostOps0_2, hostOps0_3, hostOps0_4, List.cons_append, List.nil_append, List.append_nil]
  entry_read
  pointwise
  blk_ext [idxw t]
  all_goals omega

end Cert.Kernel2Ideal.In
-- ==== Proof.InAt.lean ====
module

public import proofs.«01_k».proof.Proof.InKern
public import proofs.«01_k».proof.Proof.InVoc
public import proofs.«01_k».proof.Proof.Blocks2

@[expose] public section
set_option backward.proofsInPublic true
set_option maxRecDepth 16384
noncomputable section
namespace Cert.Kernel2Ideal.In
open Cert.Kernel2Ideal Cert.Kernel2Ideal.Gen Idealize.ShloMosaic Idealize.ShloMosaic.TcCoe Idealize.SL.Sem Cert.Model

theorem canon_cons_at {s : Shape} {e : EltTy} (r : Rect s) (w : r.shape.Idx → Elt Ideal e) (L : List (View.Piece (Elt Ideal) s e)) (x : r.shape.Idx) (y : s.Idx)
    (hx : ∀ a, (y a).val = r.off a + r.stride a * (x a).val) : View.canon (⟨r, w⟩ :: L) y = w x := by
  rw [← r.emb_eq_of_coords x y hx]
  exact View.canon_cons_emb r w L x

theorem EXTQ_low (u : Vec Ideal S1024x1024 .f32) (g : Vec Ideal S8x1024 .f32) (q : ℕ) (h : 8 ≤ q) (hq : q < 1032) (j : Fin 1024) :
    EXTQ u g (ix2 ⟨q, hq⟩ j) = u (ix2 ⟨q - 8, by omega⟩ j) := by
  unfold EXTQ
  refine canon_cons_at (Rect.unit (s := S1032x1024) ![8, 0] ![1024, 1024] inb_S1032x1024_S1024x1024_8_0) _ _ (ix2 (n0 := 1024) ⟨q - 8, by omega⟩ j) _ ?_
  intro a
  fin_cases a
  · show q = 8 + 1 * (q - 8); omega
  · show j.val = 0 + 1 * j.val; omega

theorem EXTQ_high (u : Vec Ideal S1024x1024 .f32) (g : Vec Ideal S8x1024 .f32) (q : ℕ) (h : q < 8) (j : Fin 1024) :
    EXTQ u g (ix2 ⟨q, by omega⟩ j) = g (ix2 ⟨q, h⟩ j) := by
  unfold EXTQ
  rw [View.canon_cons_of_not_mem]
  · refine canon_cons_at (Rect.unit (s := S1032x1024) ![0, 0] ![8, 1024] inb_S1032x1024_S8x1024_0_0) _ [] (ix2 (n0 := 8) ⟨q, h⟩ j) _ ?_
    intro a
    fin_cases a
    · show q = 0 + 1 * q; omega
    · show j.val = 0 + 1 * j.val; omega
  · refine Rect.not_mem_set_of_axis _ _ 0 8 1024 rfl rfl rfl (.inl ?_)
    show q < 8
    exact h

theorem EXTU_low (u : Vec Ideal S1024x256 .f32) (g : Vec Ideal S16x256 .f32) (q : ℕ) (h : 16 ≤ q) (hq : q < 1040) (j : Fin 256) :
    EXTU u g (ix2 ⟨q, hq⟩ j) = u (ix2 ⟨q - 16, by omega⟩ j) := by
  unfold EXTU
  refine canon_cons_at (Rect.unit (s := S1040x256) ![16, 0] ![1024, 256] inb_S1040x256_S1024x256_16_0) _ _ (ix2 (n0 := 1024) ⟨q - 16, by omega⟩ j) _ ?_
  intro a
  fin_cases a
  · show q = 16 + 1 * (q - 16); omega
  · show j.val = 0 + 1 * j.val; omega

theorem EXTU_high (u : Vec Ideal S1024x256 .f32) (g : Vec Ideal S16x256 .f32) (q : ℕ) (h : q < 16) (j : Fin 256) :
    EXTU u g (ix2 ⟨q, by omega⟩ j) = g (ix2 ⟨q, h⟩ j) := by
  unfold EXTU
  rw [View.canon_cons_of_not_mem]
  · refine canon_cons_at (Rect.unit (s := S1040x256) ![0, 0] ![16, 256] inb_S1040x256_S16x256_0_0) _ [] (ix2 (n0 := 16) ⟨q, h⟩ j) _ ?_
    intro a
    fin_cases a
    · show q = 0 + 1 * q; omega
    · show j.val = 0 + 1 * j.val; omega
  · refine Rect.not_mem_set_of_axis _ _ 0 16 1024 rfl rfl rfl (.inl ?_)
    show q < 16
    exact h

theorem HEADS_3 (p0 p1 p2 p3 : Vec Ideal S1x1024x64 .bf16) (r : Fin 1024) (j : Fin 64) : HEADS p0 p1 p2 p3 (ix3 3 r j) = p3 (ix3 0 r j) := by
  unfold HEADS
  refine canon_cons_at (Rect.unit (s := S4x1024x64) ![3, 0, 0] ![1, 1024, 64] inb_S4x1024x64_S1x1024x64_3_0_0) _ _ (ix3 (n0 := 1) 0 r j) _ ?_
  intro a
  fin_cases a
  · show 3 = 3 + 1 * 0; omega
  · show r.val = 0 + 1 * r.val; omega
  · show j.val = 0 + 1 * j.val; omega

theorem HEADS_2 (p0 p1 p2 p3 : Vec Ideal S1x1024x64 .bf16) (r : Fin 1024) (j : Fin 64) : HEADS p0 p1 p2 p3 (ix3 2 r j) = p2 (ix3 0 r j) := by
  unfold HEADS
  rw [View.canon_cons_of_not_mem]
  · refine canon_cons_at (Rect.unit (s := S4x1024x64) ![2, 0, 0] ![1, 1024, 64] inb_S4x1024x64_S1x1024x64_2_0_0) _ _ (ix3 (n0 := 1) 0 r j) _ ?_
    intro a
    fin_cases a
    · show 2 = 2 + 1 * 0; omega
    · show r.val = 0 + 1 * r.val; omega
    · show j.val = 0 + 1 * j.val; omega
  · exact Rect.not_mem_set_of_axis _ _ 0 3 1 rfl rfl rfl (.inl (show 2 < 3 by omega))

theorem HEADS_1 (p0 p1 p2 p3 : Vec Ideal S1x1024x64 .bf16) (r : Fin 1024) (j : Fin 64) : HEADS p0 p1 p2 p3 (ix3 1 r j) = p1 (ix3 0 r j) := by
  unfold HEADS
  rw [View.canon_cons_of_not_mem, View.canon_cons_of_not_mem]
  · refine canon_cons_at (Rect.unit (s := S4x1024x64) ![1, 0, 0] ![1, 1024, 64] inb_S4x1024x64_S1x1024x64_1_0_0) _ _ (ix3 (n0 := 1) 0 r j) _ ?_
    intro a
    fin_cases a
    · show 1 = 1 + 1 * 0; omega
    · show r.val = 0 + 1 * r.val; omega
    · show j.val = 0 + 1 * j.val; omega
  · exact Rect.not_mem_set_of_axis _ _ 0 2 1 rfl rfl rfl (.inl (show 1 < 2 by omega))
  · exact Rect.not_mem_set_of_axis _ _ 0 3 1 rfl rfl rfl (.inl (show 1 < 3 by omega))

theorem HEADS_0 (p0 p1 p2 p3 : Vec Ideal S1x1024x64 .bf16) (r : Fin 1024) (j : Fin 64) : HEADS p0 p1 p2 p3 (ix3 0 r j) = p0 (ix3 0 r j) := by
  unfold HEADS
  rw [View.canon_cons_of_not_mem, View.canon_cons_of_not_mem, View.canon_cons_of_not_mem]
  · refine canon_cons_at (Rect.unit (s := S4x1024x64) ![0, 0, 0] ![1, 1024, 64] inb_S4x1024x64_S1x1024x64_0_0_0) _ _ (ix3 (n0 := 1) 0 r j) _ ?_
    intro a
    fin_cases a
    · show 0 = 0 + 1 * 0; omega
    · show r.val = 0 + 1 * r.val; omega
    · show j.val = 0 + 1 * j.val; omega
  · exact Rect.not_mem_set_of_axis _ _ 0 1 1 rfl rfl rfl (.inl (show 0 < 1 by omega))
  · exact Rect.not_mem_set_of_axis _ _ 0 2 1 rfl rfl rfl (.inl (show 0 < 2 by omega))
  · exact Rect.not_mem_set_of_axis _ _ 0 3 1 rfl rfl rfl (.inl (show 0 < 3 by omega))

theorem pay3_at (q : Fin 8) (j : Fin 1024) : k0_pay3 (F := Ideal) (ix2 q j) = (0 : EReal) := by
  pointwise [k0_pay3]

theorem pay4_at (q : Fin 16) (j : Fin 256) : k0_pay4 (F := Ideal) (ix2 q j) = (0 : EReal) := by
  pointwise [k0_pay4]

theorem HALQ_at (x : Vec Ideal S1032x1024 .f32) (q : Fin 8) (j : Fin 1024) : HALQ x (ix2 q j) = x (ix2 ⟨1024 + q.val, by omega⟩ j) := by
  unfold HALQ
  unfold k0_pay5
  generalize hx : View.ld x _ = w
  pointwise []
  rw [← hx]
  refine View.ld_unit_apply_of _ _ _ _ _ _ ?_
  intro a; fin_cases a <;> simp

theorem HALU_at (x : Vec Ideal S1040x256 .f32) (q : Fin 16) (j : Fin 256) : HALU x (ix2 q j) = x (ix2 ⟨1024 + q.val, by omega⟩ j) := by
  unfold HALU
  unfold k0_pay6
  generalize hx : View.ld x _ = w
  pointwise []
  rw [← hx]
  refine View.ld_unit_apply_of _ _ _ _ _ _ ?_
  intro a; fin_cases a <;> simp

variable (x0 : Vec Ideal S1024x1024 .f32) (x1 : Vec Ideal S1x1x1024 .f32) (x2 : Vec Ideal S1x1024x2048 .bf16) (x3 : Vec Ideal S1x1024x1024 .bf16)

theorem HH_at (r d : Fin 1024) : HH x0 x1 (ix2 r d) = rms c1024 (fun k => x0 (ix2 r k)) (fun k => x1 (ix3 0 0 k)) d := by
  unfold HH
  rw [pay2_at]
  have e0 : ∀ k : Fin 1024, (View.ld x0 (Rect.unit (s := S1024x1024) ![0, 0] ![1024, 1024] inb_S1024x1024_S1024x1024_0_0)) (ix2 r k) = x0 (ix2 r k) := by
    intro k
    refine View.ld_unit_apply_of _ _ _ _ _ _ ?_
    intro a; fin_cases a <;> simp
  have e1 : ∀ k : Fin 1024, (View.ld x1 (Rect.unit (s := S1x1x1024) ![0, 0, 0] ![1, 1, 1024] inb_S1x1x1024_S1x1x1024_0_0_0)) (ix3 0 0 k) = x1 (ix3 0 0 k) := by
    intro k
    refine View.ld_unit_apply_of _ _ _ _ _ _ ?_
    intro a; fin_cases a <;> simp
  simp only [e0, e1]

/-- A normed row against a column. -/
def hw (r : Fin 1024) (w : Fin 1024 → EReal) : EReal := ∑ k, rms c1024 (fun k => x0 (ix2 r k)) (fun k => x1 (ix3 0 0 k)) k * w k

theorem QKB_at (r e : Fin 1024) : QKB x0 x1 x2 (ix2 r e) = hw x0 x1 r (fun k => x2 (ix3 0 k ⟨e.val, by omega⟩)) := by
  unfold QKB hw
  rw [pay8_at]
  refine Finset.sum_congr rfl (fun k _ => congrArg₂ (· * ·) (HH_at x0 x1 r k) ?_)
  refine View.ld_unit_apply_of _ _ _ _ _ _ ?_
  intro a; fin_cases a <;> simp

theorem OV_at (r : Fin 1024) (e : Fin 512) : OV x0 x1 x2 (ix2 r e) = hw x0 x1 r (fun k => x2 (ix3 0 k ⟨1024 + e.val, by omega⟩)) := by
  unfold OV hw
  rw [pay9_at]
  refine Finset.sum_congr rfl (fun k _ => congrArg₂ (· * ·) (HH_at x0 x1 r k) ?_)
  refine View.ld_unit_apply_of _ _ _ _ _ _ ?_
  intro a; fin_cases a <;> simp

theorem OO_at (r : Fin 1024) (e : Fin 512) : OO x0 x1 x2 (ix2 r e) = hw x0 x1 r (fun k => x2 (ix3 0 k ⟨1536 + e.val, by omega⟩)) := by
  unfold OO hw
  rw [pay10_at]
  refine Finset.sum_congr rfl (fun k _ => congrArg₂ (· * ·) (HH_at x0 x1 r k) ?_)
  refine View.ld_unit_apply_of _ _ _ _ _ _ ?_
  intro a; fin_cases a <;> simp

theorem SBB_at (r : Fin 1024) (e : Fin 768) : SBB x0 x1 x3 (ix2 r e) = hw x0 x1 r (fun k => x3 (ix3 0 k ⟨e.val, by omega⟩)) := by
  unfold SBB hw
  rw [pay12_at]
  refine Finset.sum_congr rfl (fun k _ => congrArg₂ (· * ·) (HH_at x0 x1 r k) ?_)
  refine View.ld_unit_apply_of _ _ _ _ _ _ ?_
  intro a; fin_cases a <;> simp

theorem UB_at (r : Fin 1024) (e : Fin 256) : UB x0 x1 x3 (ix2 r e) = hw x0 x1 r (fun k => x3 (ix3 0 k ⟨768 + e.val, by omega⟩)) := by
  unfold UB hw
  rw [pay33_at]
  refine Finset.sum_congr rfl (fun k _ => congrArg₂ (· * ·) (HH_at x0 x1 r k) ?_)
  refine View.ld_unit_apply_of _ _ _ _ _ _ ?_
  intro a; fin_cases a <;> simp

theorem U_at (r : Fin 1024) (e : Fin 256) : k0_pay32 (HH x0 x1) (View.ld x3 (Rect.unit (s := S1x1024x1024) ![0, 0, 768] ![1, 1024, 256] inb_S1x1024x1024_S1x1024x256_0_0_768)) (ix2 r e) = hw x0 x1 r (fun k => x3 (ix3 0 k ⟨768 + e.val, by omega⟩)) := by
  unfold hw
  rw [pay32_at]
  refine Finset.sum_congr rfl (fun k _ => congrArg₂ (· * ·) (HH_at x0 x1 r k) ?_)
  refine View.ld_unit_apply_of _ _ _ _ _ _ ?_
  intro a; fin_cases a <;> simp

theorem OG_at (x4 : Vec Ideal S1x1024x128 .bf16) (x7 : Vec Ideal S1x1x128 .f32) (r : Fin 1024) (e : Fin 128) :
    OG x0 x1 x4 x7 (ix2 r e) = if e.val < 4 then hw x0 x1 r (fun k => x4 (ix3 0 k e)) + x7 (ix3 0 0 e) else lsigk (hw x0 x1 r (fun k => x4 (ix3 0 k e)) + x7 (ix3 0 0 e)) := by
  have h : k0_pay11 (HH x0 x1) (View.ld x4 (Rect.unit (s := S1x1024x128) ![0, 0, 0] ![1, 1024, 128] inb_S1x1024x128_S1x1024x128_0_0_0)) (View.ld x7 (Rect.unit (s := S1x1x128) ![0, 0, 0] ![1, 1, 128] inb_S1x1x128_S1x1x128_0_0_0)) (ix2 r e)
      = hw x0 x1 r (fun k => x4 (ix3 0 k e)) + x7 (ix3 0 0 e) := by
    unfold hw
    rw [pay11_at]
    refine congrArg₂ (· + ·) (Finset.sum_congr rfl (fun k _ => congrArg₂ (· * ·) (HH_at x0 x1 r k) ?_)) ?_
    · refine View.ld_unit_apply_of _ _ _ _ _ _ ?_
      intro a; fin_cases a <;> simp
    · refine View.ld_unit_apply_of _ _ _ _ _ _ ?_
      intro a; fin_cases a <;> simp
  unfold OG
  rw [pay17_at, h]

/-- The gated convolution of a tile's rows below the rows above it. -/
def qkt (x5 : Vec Ideal S1x4x1024 .f32) (x6 : Vec Ideal S1x1x1024 .f32) (g : FVec Ideal S8x1024 .f32) (r j : Fin 1024) : EReal :=
  siluk (conv4 (x6 (ix3 0 0 j)) (x5 (ix3 0 0 j)) (x5 (ix3 0 1 j)) (x5 (ix3 0 2 j)) (x5 (ix3 0 3 j))
    (EXTQ (QKB x0 x1 x2) g (ix2 ⟨8 + r.val, by omega⟩ j)) (EXTQ (QKB x0 x1 x2) g (ix2 ⟨7 + r.val, by omega⟩ j)) (EXTQ (QKB x0 x1 x2) g (ix2 ⟨6 + r.val, by omega⟩ j)) (EXTQ (QKB x0 x1 x2) g (ix2 ⟨5 + r.val, by omega⟩ j)))

theorem qkt_at (x5 : Vec Ideal S1x4x1024 .f32) (x6 : Vec Ideal S1x1x1024 .f32) (g : FVec Ideal S8x1024 .f32) (r j : Fin 1024) :
    k0_pay14 (EXTQ (QKB x0 x1 x2) g) (k0_pay13 (View.ld x5 (Rect.unit (s := S1x4x1024) ![0, 0, 0] ![1, 4, 1024] inb_S1x4x1024_S1x4x1024_0_0_0))) (View.ld x6 (Rect.unit (s := S1x1x1024) ![0, 0, 0] ![1, 1, 1024] inb_S1x1x1024_S1x1x1024_0_0_0)) (ix2 r j)
      = qkt x0 x1 x2 x5 x6 g r j := by
  have e5 : ∀ k : Fin 4, (View.ld x5 (Rect.unit (s := S1x4x1024) ![0, 0, 0] ![1, 4, 1024] inb_S1x4x1024_S1x4x1024_0_0_0)) (ix3 0 k j) = x5 (ix3 0 k j) := by
    intro k
    refine View.ld_unit_apply_of _ _ _ _ _ _ ?_
    intro a; fin_cases a <;> simp
  have e6 : (View.ld x6 (Rect.unit (s := S1x1x1024) ![0, 0, 0] ![1, 1, 1024] inb_S1x1x1024_S1x1x1024_0_0_0)) (ix3 0 0 j) = x6 (ix3 0 0 j) := by
    refine View.ld_unit_apply_of _ _ _ _ _ _ ?_
    intro a; fin_cases a <;> simp
  rw [pay14_at]
  simp only [e5, e6]
  rfl

theorem OQ_at (x5 : Vec Ideal S1x4x1024 .f32) (x6 : Vec Ideal S1x1x1024 .f32) (g : FVec Ideal S8x1024 .f32) (r : Fin 1024) (j : Fin 512) :
    OQ x0 x1 x2 x5 x6 g (ix2 r j) = qkt x0 x1 x2 x5 x6 g r ⟨j.val, by omega⟩ := by
  unfold OQ
  rw [pay15_at, qkt_at]

theorem OK_at (x5 : Vec Ideal S1x4x1024 .f32) (x6 : Vec Ideal S1x1x1024 .f32) (g : FVec Ideal S8x1024 .f32) (r : Fin 1024) (j : Fin 512) :
    OK x0 x1 x2 x5 x6 g (ix2 r j) = qkt x0 x1 x2 x5 x6 g r ⟨512 + j.val, by omega⟩ * kscale := by
  unfold OK
  rw [pay16_at, qkt_at]

theorem OQS_at (h : Fin 4) (r : Fin 1024) (j : Fin 64) : OQS x0 x1 x3 (ix3 h r j) = hw x0 x1 r (fun k => x3 (ix3 0 k ⟨h.val * 64 + j.val, by omega⟩)) * sbscale := by
  unfold OQS
  rcases (show h = 0 ∨ h = 1 ∨ h = 2 ∨ h = 3 by omega) with rfl | rfl | rfl | rfl
  · rw [HEADS_0, pay18_at, SBB_at]; congr 3; funext k; congr 2; apply Fin.ext; show j.val = 0 * 64 + j.val; omega
  · rw [HEADS_1, pay21_at, SBB_at]; rfl
  · rw [HEADS_2, pay25_at, SBB_at]; rfl
  · rw [HEADS_3, pay28_at, SBB_at]; rfl

theorem OKS_at (h : Fin 4) (r : Fin 1024) (j : Fin 64) : OKS x0 x1 x3 (ix3 h r j) = hw x0 x1 r (fun k => x3 (ix3 0 k ⟨256 + (h.val * 64 + j.val), by omega⟩)) := by
  unfold OKS
  rcases (show h = 0 ∨ h = 1 ∨ h = 2 ∨ h = 3 by omega) with rfl | rfl | rfl | rfl
  · rw [HEADS_0, pay19_at, SBB_at]; congr 1; funext k; congr 2; apply Fin.ext; show 256 + j.val = 256 + (0 * 64 + j.val); omega
  · rw [HEADS_1, pay23_at, SBB_at]; congr 1; funext k; congr 2; apply Fin.ext; show 320 + j.val = 256 + (1 * 64 + j.val); omega
  · rw [HEADS_2, pay26_at, SBB_at]; congr 1; funext k; congr 2; apply Fin.ext; show 384 + j.val = 256 + (2 * 64 + j.val); omega
  · rw [HEADS_3, pay30_at, SBB_at]; congr 1; funext k; congr 2; apply Fin.ext; show 448 + j.val = 256 + (3 * 64 + j.val); omega

theorem OVS_at (h : Fin 4) (r : Fin 1024) (j : Fin 64) : OVS x0 x1 x3 (ix3 h r j) = hw x0 x1 r (fun k => x3 (ix3 0 k ⟨512 + (h.val * 64 + j.val), by omega⟩)) := by
  unfold OVS
  rcases (show h = 0 ∨ h = 1 ∨ h = 2 ∨ h = 3 by omega) with rfl | rfl | rfl | rfl
  · rw [HEADS_0, pay20_at, SBB_at]; congr 1; funext k; congr 2; apply Fin.ext; show 512 + j.val = 512 + (0 * 64 + j.val); omega
  · rw [HEADS_1, pay24_at, SBB_at]; congr 1; funext k; congr 2; apply Fin.ext; show 576 + j.val = 512 + (1 * 64 + j.val); omega
  · rw [HEADS_2, pay27_at, SBB_at]; congr 1; funext k; congr 2; apply Fin.ext; show 640 + j.val = 512 + (2 * 64 + j.val); omega
  · rw [HEADS_3, pay31_at, SBB_at]; congr 1; funext k; congr 2; apply Fin.ext; show 704 + j.val = 512 + (3 * 64 + j.val); omega

/-- A pooled column of a tile's rows below the rows above it. -/
def pldt (g : FVec Ideal S16x256 .f32) (n : ℕ) (r : Fin 1024) (k : Fin 256) : EReal :=
  Ideal.div (byGrp (tsum (up (EXTU (UB x0 x1 x3) g) r k) 1) (tsum (up (EXTU (UB x0 x1 x3) g) r k) 3) (tsum (up (EXTU (UB x0 x1 x3) g) r k) 7) (tsum (up (EXTU (UB x0 x1 x3) g) r k) 15) (k.val / 64))
    (min (posOf (n * 1024 + r.val) + 1) (widthOf (k.val / 64))) - hw x0 x1 r (fun e => x3 (ix3 0 e ⟨768 + k.val, by omega⟩))

theorem OY_at (i : grid0.Coords) (n : ℕ) (hn : TW i = BitVec.ofNat 32 n) (x8 : Vec Ideal S1x256x256 .bf16) (x9 x10 : Vec Ideal S1x1x256 .f32) (g : FVec Ideal S16x256 .f32) (r : Fin 1024) (j : Fin 256) :
    OY i x0 x1 x3 x8 x9 x10 g (ix2 r j)
      = rms c256 (fun e => (∑ k : Fin 256, pldt x0 x1 x3 g n r k * x8 (ix3 0 k e)) * x9 (ix3 0 0 e)) (fun e => x10 (ix3 0 0 e)) j := by
  have e8 : ∀ k e : Fin 256, (View.ld x8 (Rect.unit (s := S1x256x256) ![0, 0, 0] ![1, 256, 256] inb_S1x256x256_S1x256x256_0_0_0)) (ix3 0 k e) = x8 (ix3 0 k e) := by
    intro k e
    refine View.ld_unit_apply_of _ _ _ _ _ _ ?_
    intro a; fin_cases a <;> simp
  have e9 : ∀ (x : Vec Ideal S1x1x256 .f32) (e : Fin 256), (View.ld x (Rect.unit (s := S1x1x256) ![0, 0, 0] ![1, 1, 256] inb_S1x1x256_S1x1x256_0_0_0)) (ix3 0 0 e) = x (ix3 0 0 e) := by
    intro x e
    refine View.ld_unit_apply_of _ _ _ _ _ _ ?_
    intro a; fin_cases a <;> simp
  have one : (Scalar.ofBits FTy.f32 0x3F800000#32 : Ideal .f32) = (1 : EReal) := by
    show Ideal.ofBits FTy.f32 0x3F800000#32 = (1 : EReal)
    simp [Ideal.ofBits, Ideal.ieee, -EReal.coe_mul]; norm_num
  unfold OY
  rw [hn]
  refine (pay1_at _ _ _ _ _ _ _ _ r j).trans ?_
  refine congrArg₂ (fun f g => rms c256 f g j) (funext fun e => congrArg₂ (· * ·) (Finset.sum_congr rfl fun k _ => congrArg₂ (· * ·) ?_ (e8 k e)) (e9 x9 e)) (funext fun e => e9 x10 e)
  unfold pldt
  refine congrArg₂ (· - ·) (congrArg₂ Ideal.div ?_ (congrArg₂ min (congrArg₂ (· + ·) (pay45_at n r k) one) (pay47_at r k))) (U_at x0 x1 x3 r k)
  refine (pay46_at _ _ _ _ r k).trans ?_
  rw [sum2_at, sum4_at, sum8_at, sum16_at]

end Cert.Kernel2Ideal.In
-- ==== Proof.Ref2.lean ====
module

public import proofs.«01_k».proof.Proof.Gen.Reference2Ideal.Read
public import proofs.«01_k».proof.Proof.Model2

@[expose] public section
set_option backward.proofsInPublic true
set_option maxRecDepth 16384
noncomputable section
namespace Cert.Reference2Ideal.In
open Cert.Reference2Ideal Cert.Reference2Ideal.Read Idealize.ShloMosaic Idealize.ShloMosaic.TcCoe Idealize.SL.Sem Cert.Model

variable (a0 : (⟨S8x2048x1024, .f32⟩ : BufTy).Contents (Elt Ideal)) (a1 : (⟨S2x1024, .f32⟩ : BufTy).Contents (Elt Ideal)) (a2 : (⟨S2x1024x3080, .f32⟩ : BufTy).Contents (Elt Ideal)) (a3 : (⟨S2x4x1024, .f32⟩ : BufTy).Contents (Elt Ideal)) (a4 : (⟨S2x1024, .f32⟩ : BufTy).Contents (Elt Ideal)) (a5 a6 : (⟨S2x4, .f32⟩ : BufTy).Contents (Elt Ideal)) (a7 : (⟨S2x4x64x64, .f32⟩ : BufTy).Contents (Elt Ideal)) (a8 a9 : (⟨S2x256, .f32⟩ : BufTy).Contents (Elt Ideal))

theorem one_at : Ideal.ofBits FTy.f32 0x3F800000#32 = (1 : EReal) := by
  simp [Ideal.ofBits, Ideal.ieee, -EReal.coe_mul]; norm_num

theorem zero_at : Ideal.ofBits FTy.f32 0x00000000#32 = (0 : EReal) := by
  simp [Ideal.ofBits, Ideal.ieee, -EReal.coe_mul]

/-- The input projection. -/
def pj (b : Fin 8) (s : Fin 2048) (e : Fin 3080) : EReal :=
  ∑ k, rms c1024 (fun d => a0 (ix3 b s d)) (fun d => a1 (ix2 0 d)) k * a2 (ix3 0 k e)

theorem v14_at (b : Fin 8) (s : Fin 2048) (d : Fin 1024) :
    val_main_v14 (F := Ideal) a0 a1 (ix3 b s d) = rms c1024 (fun d => a0 (ix3 b s d)) (fun d => a1 (ix2 0 d)) d := by
  pointwise [val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v17_at (b : Fin 8) (s : Fin 2048) (e : Fin 3080) :
    val_main_v17 (F := Ideal) a0 a1 a2 (ix3 b s e) = pj a0 a1 a2 b s e := by
  unfold pj
  simp only [← v14_at]
  pointwise [val_main_v17, val_main_v16, val_main_v15]
  try rfl

theorem v28_at (b : Fin 8) (s : Fin 2048) (e : Fin 1024) :
    val_main_v28 (F := Ideal) a0 a1 a2 (ix3 b s e) = pj a0 a1 a2 b s ⟨e.val, by omega⟩ := by
  rw [← v17_at]
  pointwise [val_main_v28, val_main_v18, val_main_v19]
  by_cases h : e.val < 512
  · rw [dif_pos h]
  · rw [dif_neg h]
    refine congrArg (fun q : Fin 3080 => val_main_v17 (F := Ideal) a0 a1 a2 (ix3 b s q)) (Fin.ext ?_)
    show 512 + (e.val - 512) = e.val
    omega

theorem v33_at (b : Fin 8) (q : Fin 2051) (c : Fin 1024) :
    val_main_v33 (F := Ideal) a0 a1 a2 (ix3 b q c) = if h : 3 ≤ q.val then pj a0 a1 a2 b ⟨q.val - 3, by omega⟩ ⟨c.val, by omega⟩ else 0 := by
  simp only [← v28_at]
  pointwise [val_main_v33]
  by_cases h : 3 ≤ q.val
  · rw [dif_pos ⟨h, by omega⟩, dif_pos h]
  · rw [dif_neg (fun h' => h h'.1), dif_neg h]
    pointwise [val_main_call0_v0, val_main_c]
    change (((0#32 : BitVec 32).toInt : ℝ) : EReal) = 0
    simp

theorem pad_ago (u : Fin 2048 → EReal) (s : Fin 2048) (w n : ℕ) (hn : n ≤ w) (q : ℕ) (hq : q = w - n + s.val) :
    (if h : w ≤ q then u ⟨q - w, by omega⟩ else 0) = ago u s n := by
  unfold ago
  by_cases h : n ≤ s.val
  · rw [dif_pos h, dif_pos (by omega)]
    congr 1; exact Fin.ext (by show q - w = s.val - n; omega)
  · rw [dif_neg h, dif_neg (by omega)]

/-- The causal convolution along the sequence, through the gate. -/
def qk (b : Fin 8) (s : Fin 2048) (c : Fin 1024) : EReal :=
  siluk (conv4 (a4 (ix2 0 c)) (a3 (ix3 0 0 c)) (a3 (ix3 0 1 c)) (a3 (ix3 0 2 c)) (a3 (ix3 0 3 c))
    (ago (fun s => pj a0 a1 a2 b s ⟨c.val, by omega⟩) s 0) (ago (fun s => pj a0 a1 a2 b s ⟨c.val, by omega⟩) s 1)
    (ago (fun s => pj a0 a1 a2 b s ⟨c.val, by omega⟩) s 2) (ago (fun s => pj a0 a1 a2 b s ⟨c.val, by omega⟩) s 3))

theorem v63_at (b : Fin 8) (s : Fin 2048) (c : Fin 1024) :
    val_main_v63 (F := Ideal) a0 a1 a2 a3 a4 (ix3 b s c) = conv4 (a4 (ix2 0 c)) (a3 (ix3 0 0 c)) (a3 (ix3 0 1 c)) (a3 (ix3 0 2 c)) (a3 (ix3 0 3 c))
    (ago (fun s => pj a0 a1 a2 b s ⟨c.val, by omega⟩) s 0) (ago (fun s => pj a0 a1 a2 b s ⟨c.val, by omega⟩) s 1)
    (ago (fun s => pj a0 a1 a2 b s ⟨c.val, by omega⟩) s 2) (ago (fun s => pj a0 a1 a2 b s ⟨c.val, by omega⟩) s 3) := by
  have e3 := pad_ago (fun s => pj a0 a1 a2 b s ⟨c.val, by omega⟩) s 3 3 (by omega) s.val (by omega)
  have e2 := pad_ago (fun s => pj a0 a1 a2 b s ⟨c.val, by omega⟩) s 3 2 (by omega) (1 + s.val) (by omega)
  have e1 := pad_ago (fun s => pj a0 a1 a2 b s ⟨c.val, by omega⟩) s 3 1 (by omega) (2 + s.val) (by omega)
  have e0 := pad_ago (fun s => pj a0 a1 a2 b s ⟨c.val, by omega⟩) s 3 0 (by omega) (3 + s.val) (by omega)
  try dsimp only at e0 e1 e2 e3
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v32, val_main_v31, val_main_v30, val_main_v29]
  simp only [v33_at]
  rw [e3, e2, e1, e0]
  unfold conv4
  simp only [mul_comm (a3 _)]
  abel

theorem v64_at (b : Fin 8) (s : Fin 2048) (c : Fin 1024) :
    val_main_v64 (F := Ideal) a0 a1 a2 a3 a4 (ix3 b s c) = qk a0 a1 a2 a3 a4 b s c := by
  unfold qk siluk
  rw [← v63_at]
  pointwise [val_main_v64, val_main_call1_v5, val_main_call1_v4, val_main_call1_v3, val_main_call1_v2, val_main_call1_v1, val_main_call1_v0, val_main_call1_cst, val_main_call1_cst_0]
  rw [zero_sub]

/-- The sequence a row of the flat tokens is of, and its place in it. -/
def rb (R : Fin 16384) : Fin 8 := ⟨R.val / 2048, by omega⟩
def rs (R : Fin 16384) : Fin 2048 := ⟨R.val % 2048, by omega⟩

theorem v218_at (R : Fin 16384) (j : Fin 512) :
    val_main_v218 (F := Ideal) a0 a1 a2 a3 a4 (ix2 R j) = qk a0 a1 a2 a3 a4 (rb R) (rs R) ⟨j.val, by omega⟩ := by
  rw [← v64_at]
  pointwise [val_main_v218, val_main_v217, val_main_v65]
  try rfl

theorem v220_at (R : Fin 16384) (j : Fin 512) :
    val_main_v220 (F := Ideal) a0 a1 a2 a3 a4 (ix2 R j) = qk a0 a1 a2 a3 a4 (rb R) (rs R) ⟨512 + j.val, by omega⟩ * kscale := by
  rw [← v64_at]
  unfold kscale
  pointwise [val_main_v220, val_main_v219, val_main_v68, val_main_v67, val_main_cst_2, val_main_v66]
  try rfl

theorem v222_at (R : Fin 16384) (j : Fin 512) :
    val_main_v222 (F := Ideal) a0 a1 a2 (ix2 R j) = pj a0 a1 a2 (rb R) (rs R) ⟨1024 + j.val, by omega⟩ := by
  rw [← v17_at]
  pointwise [val_main_v222, val_main_v221, val_main_v20]
  try rfl

theorem v224_at (R : Fin 16384) (j : Fin 512) :
    val_main_v224 (F := Ideal) a0 a1 a2 (ix2 R j) = pj a0 a1 a2 (rb R) (rs R) ⟨1536 + j.val, by omega⟩ := by
  rw [← v17_at]
  pointwise [val_main_v224, val_main_v223, val_main_v21]
  try rfl

theorem v228_at (h : Fin 4) (R : Fin 16384) (j : Fin 64) :
    val_main_v228 (F := Ideal) a0 a1 a2 (ix3 h R j) = Ideal.div (pj a0 a1 a2 (rb R) (rs R) ⟨2056 + (h.val * 64 + j.val), by omega⟩ * Ideal.ofBits FTy.f32 0x3E000000#32) (Ideal.log (Ideal.ofBits FTy.f32 0x40000000#32)) := by
  rw [← v17_at]
  pointwise [val_main_v228, val_main_v227, val_main_v226, val_main_v88, val_main_v87, val_main_v86, val_main_v85, val_main_cst_5, val_main_v84, val_main_v83, val_main_cst_4, val_main_v24]
  rfl

theorem v231_at (h : Fin 4) (R : Fin 16384) (j : Fin 64) :
    val_main_v231 (F := Ideal) a0 a1 a2 (ix3 h R j) = pj a0 a1 a2 (rb R) (rs R) ⟨2312 + (h.val * 64 + j.val), by omega⟩ := by
  rw [← v17_at]
  pointwise [val_main_v231, val_main_v230, val_main_v229, val_main_v25]
  rfl

theorem v234_at (h : Fin 4) (R : Fin 16384) (j : Fin 64) :
    val_main_v234 (F := Ideal) a0 a1 a2 (ix3 h R j) = pj a0 a1 a2 (rb R) (rs R) ⟨2568 + (h.val * 64 + j.val), by omega⟩ := by
  rw [← v17_at]
  pointwise [val_main_v234, val_main_v233, val_main_v232, val_main_v26]
  rfl

/-- The logarithm of the logistic as the reference writes it. -/
theorem lsigr_eq (a : EReal) :
    -(if -a ≠ -a then -a else max (-a) 0 + Ideal.log1p (Ideal.exp (-(FloatOps.absf (F := Ideal) (φ := .f32) (-a))))) = lsigk a := by
  have hk : FloatOps.absf (F := Ideal) (φ := .f32) (-a) = FloatOps.absf (F := Ideal) (φ := .f32) a := by
    show max (-a) (- -a) = max a (-a)
    rw [neg_neg, max_comm]
  have hm : -(max (-a) 0) = min a 0 := by
    rcases le_total a 0 with h | h
    · rw [min_eq_left h, max_eq_left (by simpa using EReal.neg_le_neg_iff.mpr h), neg_neg]
    · rw [min_eq_right h, max_eq_right (by simpa using EReal.neg_le_neg_iff.mpr h), neg_zero]
  rw [if_neg (fun h => h rfl), hk]
  unfold lsigk
  rw [← hm, zero_sub]
  refine EReal.neg_add (Or.inl ?_) ?_
  · exact ne_of_gt (lt_of_lt_of_le EReal.bot_lt_zero (le_max_right _ _))
  · induction a with
    | bot =>
      right
      have : FloatOps.absf (F := Ideal) (φ := .f32) (⊥ : EReal) = (⊤ : EReal) := by show max (⊥ : EReal) (-⊥) = ⊤; simp
      rw [this]
      unfold Ideal.log1p
      rw [EReal.neg_top, Ideal.exp_bot, add_zero, ← EReal.coe_one, Ideal.log_coe, if_neg (by norm_num)]
      exact EReal.coe_ne_bot _
    | coe r =>
      left
      rcases le_total (-(r : EReal)) 0 with h | h
      · rw [max_eq_right h]; exact EReal.zero_ne_top
      · rw [max_eq_left h, ← EReal.coe_neg]; exact EReal.coe_ne_top _
    | top =>
      left
      rw [EReal.neg_top, max_eq_right bot_le]; exact EReal.zero_ne_top

theorem v81_at (b : Fin 8) (s : Fin 2048) (e : Fin 4) :
    val_main_v81 (F := Ideal) a0 a1 a2 a6 (ix3 b s e) = lsigk (pj a0 a1 a2 b s ⟨2052 + e.val, by omega⟩ + a6 (ix2 0 e)) := by
  rw [← v17_at]
  pointwise [val_main_v81, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0, val_main_v80, val_main_v79, val_main_v78, val_main_v77, val_main_v76, val_main_v23]
  rw [v17_at]
  exact lsigr_eq _

theorem v70_at (b : Fin 8) (s : Fin 2048) (e : Fin 120) :
    val_main_v70 (F := Ideal) (ix3 b s e) = lsigk 0 := by
  pointwise [val_main_v70, val_main_call2_v1, val_main_call2_call0_v11, val_main_call2_call0_v10, val_main_call2_call0_v9, val_main_call2_call0_v8, val_main_call2_call0_v7, val_main_call2_call0_v6, val_main_call2_call0_v5, val_main_call2_call0_v4, val_main_call2_call0_v3, val_main_call2_call0_v2, val_main_call2_call0_v1, val_main_call2_call0_v0, val_main_call2_call0_cst, val_main_call2_v0, val_main_v69, val_main_cst_3]
  first | exact lsigr_eq 0 | (rw [zero_at]; exact lsigr_eq 0)

theorem v225_at (R : Fin 16384) (e : Fin 128) :
    val_main_v225 (F := Ideal) a0 a1 a2 a5 a6 (ix2 R e) = if h : e.val < 4 then pj a0 a1 a2 (rb R) (rs R) ⟨2048 + e.val, by omega⟩ + a5 (ix2 0 ⟨e.val, h⟩) else if h' : e.val < 8 then lsigk (pj a0 a1 a2 (rb R) (rs R) ⟨2048 + e.val, by omega⟩ + a6 (ix2 0 ⟨e.val - 4, by omega⟩)) else lsigk 0 := by
  pointwise [val_main_v225, val_main_v82, val_main_v75, val_main_v74, val_main_v73, val_main_v72, val_main_v71, val_main_v22]
  by_cases h : e.val < 4
  · rw [dif_pos h, dif_pos h, v17_at]; rfl
  · rw [dif_neg h, dif_neg h]
    by_cases h' : e.val < 8
    · rw [dif_pos (show e.val - 4 < 4 by omega), dif_pos h', v81_at]
      refine congrArg (fun q : Fin 3080 => lsigk (pj a0 a1 a2 (rb R) (rs R) q + a6 (ix2 0 ⟨e.val - 4, by omega⟩))) (Fin.ext ?_)
      show 2052 + (e.val - 4) = 2048 + e.val
      omega
    · rw [dif_neg (show ¬ e.val - 4 < 4 by omega), dif_neg h', v70_at]

theorem v90_at (b : Fin 8) (q : Fin 2049) (j : Fin 64) :
    val_main_v90 (F := Ideal) a0 a1 a2 (ix3 b q j) = if h : 1 ≤ q.val then pj a0 a1 a2 b ⟨q.val - 1, by omega⟩ ⟨2824 + j.val, by omega⟩ else 0 := by
  simp only [← v17_at]
  pointwise [val_main_v90, val_main_v89, val_main_v27]
  by_cases h : 1 ≤ q.val
  · rw [dif_pos ⟨h, by omega⟩, dif_pos h]
  · rw [dif_neg (fun h' => h h'.1), dif_neg h]
    pointwise [val_main_call4_v0, val_main_c_6]
    change (((0#32 : BitVec 32).toInt : ℝ) : EReal) = 0
    simp

theorem v93_at (b : Fin 8) (s : Fin 2048) (j : Fin 64) :
    val_main_v93 (F := Ideal) a0 a1 a2 (ix3 b s j) = tsum (ago (fun s => pj a0 a1 a2 b s ⟨2824 + j.val, by omega⟩) s) 1 := by
  pointwise [val_main_v93, val_main_v92, val_main_v91]
  simp only [v90_at]
  simp only [tsum_succ, tsum_zero, Nat.zero_add, Nat.reduceAdd]
  repeat' refine congrArg₂ (· + ·) ?_ ?_
  all_goals exact pad_ago (fun s => pj a0 a1 a2 b s ⟨2824 + j.val, by omega⟩) s 1 _ (by omega) _ (by omega)

theorem v102_at (b : Fin 8) (s : Fin 2048) (j : Fin 64) :
    val_main_v102 (F := Ideal) a0 a1 a2 (ix3 b s j) = Ideal.div (tsum (ago (fun s => pj a0 a1 a2 b s ⟨2824 + j.val, by omega⟩) s) 1) (min (posOf s.val + 1) (Ideal.ofBits FTy.f32 0x40000000#32)) := by
  rw [← v93_at]
  unfold posOf
  pointwise [val_main_v102, val_main_v101, val_main_v100, val_main_v99, val_main_v98, val_main_v97, val_main_v96, val_main_v95, val_main_v94, val_main_cst_7, val_main_cst_8]

theorem v104_at (b : Fin 8) (q : Fin 2051) (j : Fin 64) :
    val_main_v104 (F := Ideal) a0 a1 a2 (ix3 b q j) = if h : 3 ≤ q.val then pj a0 a1 a2 b ⟨q.val - 3, by omega⟩ ⟨2888 + j.val, by omega⟩ else 0 := by
  simp only [← v17_at]
  pointwise [val_main_v104, val_main_v103, val_main_v27]
  by_cases h : 3 ≤ q.val
  · rw [dif_pos ⟨h, by omega⟩, dif_pos h]
    exact congrArg (fun z : Fin 3080 => val_main_v17 (F := Ideal) a0 a1 a2 (ix3 b ⟨q.val - 3, by omega⟩ z)) (Fin.ext (show 2824 + (64 + j.val) = 2888 + j.val by omega))
  · rw [dif_neg (fun h' => h h'.1), dif_neg h]
    pointwise [val_main_call5_v0, val_main_c_9]
    change (((0#32 : BitVec 32).toInt : ℝ) : EReal) = 0
    simp

theorem v111_at (b : Fin 8) (s : Fin 2048) (j : Fin 64) :
    val_main_v111 (F := Ideal) a0 a1 a2 (ix3 b s j) = tsum (ago (fun s => pj a0 a1 a2 b s ⟨2888 + j.val, by omega⟩) s) 3 := by
  pointwise [val_main_v111, val_main_v110, val_main_v109, val_main_v108, val_main_v107, val_main_v106, val_main_v105]
  simp only [v104_at]
  simp only [tsum_succ, tsum_zero, Nat.zero_add, Nat.reduceAdd]
  repeat' refine congrArg₂ (· + ·) ?_ ?_
  all_goals exact pad_ago (fun s => pj a0 a1 a2 b s ⟨2888 + j.val, by omega⟩) s 3 _ (by omega) _ (by omega)

theorem v120_at (b : Fin 8) (s : Fin 2048) (j : Fin 64) :
    val_main_v120 (F := Ideal) a0 a1 a2 (ix3 b s j) = Ideal.div (tsum (ago (fun s => pj a0 a1 a2 b s ⟨2888 + j.val, by omega⟩) s) 3) (min (posOf s.val + 1) (Ideal.ofBits FTy.f32 0x40800000#32)) := by
  rw [← v111_at]
  unfold posOf
  pointwise [val_main_v120, val_main_v119, val_main_v118, val_main_v117, val_main_v116, val_main_v115, val_main_v114, val_main_v113, val_main_v112, val_main_cst_10, val_main_cst_11]

theorem v122_at (b : Fin 8) (q : Fin 2055) (j : Fin 64) :
    val_main_v122 (F := Ideal) a0 a1 a2 (ix3 b q j) = if h : 7 ≤ q.val then pj a0 a1 a2 b ⟨q.val - 7, by omega⟩ ⟨2952 + j.val, by omega⟩ else 0 := by
  simp only [← v17_at]
  pointwise [val_main_v122, val_main_v121, val_main_v27]
  by_cases h : 7 ≤ q.val
  · rw [dif_pos ⟨h, by omega⟩, dif_pos h]
    exact congrArg (fun z : Fin 3080 => val_main_v17 (F := Ideal) a0 a1 a2 (ix3 b ⟨q.val - 7, by omega⟩ z)) (Fin.ext (show 2824 + (128 + j.val) = 2952 + j.val by omega))
  · rw [dif_neg (fun h' => h h'.1), dif_neg h]
    pointwise [val_main_call6_v0, val_main_c_12]
    change (((0#32 : BitVec 32).toInt : ℝ) : EReal) = 0
    simp

theorem v137_at (b : Fin 8) (s : Fin 2048) (j : Fin 64) :
    val_main_v137 (F := Ideal) a0 a1 a2 (ix3 b s j) = tsum (ago (fun s => pj a0 a1 a2 b s ⟨2952 + j.val, by omega⟩) s) 7 := by
  pointwise [val_main_v137, val_main_v136, val_main_v135, val_main_v134, val_main_v133, val_main_v132, val_main_v131, val_main_v130, val_main_v129, val_main_v128, val_main_v127, val_main_v126, val_main_v125, val_main_v124, val_main_v123]
  simp only [v122_at]
  simp only [tsum_succ, tsum_zero, Nat.zero_add, Nat.reduceAdd]
  repeat' refine congrArg₂ (· + ·) ?_ ?_
  all_goals exact pad_ago (fun s => pj a0 a1 a2 b s ⟨2952 + j.val, by omega⟩) s 7 _ (by omega) _ (by omega)

theorem v146_at (b : Fin 8) (s : Fin 2048) (j : Fin 64) :
    val_main_v146 (F := Ideal) a0 a1 a2 (ix3 b s j) = Ideal.div (tsum (ago (fun s => pj a0 a1 a2 b s ⟨2952 + j.val, by omega⟩) s) 7) (min (posOf s.val + 1) (Ideal.ofBits FTy.f32 0x41000000#32)) := by
  rw [← v137_at]
  unfold posOf
  pointwise [val_main_v146, val_main_v145, val_main_v144, val_main_v143, val_main_v142, val_main_v141, val_main_v140, val_main_v139, val_main_v138, val_main_cst_13, val_main_cst_14]

theorem v148_at (b : Fin 8) (q : Fin 2063) (j : Fin 64) :
    val_main_v148 (F := Ideal) a0 a1 a2 (ix3 b q j) = if h : 15 ≤ q.val then pj a0 a1 a2 b ⟨q.val - 15, by omega⟩ ⟨3016 + j.val, by omega⟩ else 0 := by
  simp only [← v17_at]
  pointwise [val_main_v148, val_main_v147, val_main_v27]
  by_cases h : 15 ≤ q.val
  · rw [dif_pos ⟨h, by omega⟩, dif_pos h]
    exact congrArg (fun z : Fin 3080 => val_main_v17 (F := Ideal) a0 a1 a2 (ix3 b ⟨q.val - 15, by omega⟩ z)) (Fin.ext (show 2824 + (192 + j.val) = 3016 + j.val by omega))
  · rw [dif_neg (fun h' => h h'.1), dif_neg h]
    pointwise [val_main_call7_v0, val_main_c_15]
    change (((0#32 : BitVec 32).toInt : ℝ) : EReal) = 0
    simp

theorem v179_at (b : Fin 8) (s : Fin 2048) (j : Fin 64) :
    val_main_v179 (F := Ideal) a0 a1 a2 (ix3 b s j) = tsum (ago (fun s => pj a0 a1 a2 b s ⟨3016 + j.val, by omega⟩) s) 15 := by
  pointwise [val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_v149]
  simp only [v148_at]
  simp only [tsum_succ, tsum_zero, Nat.zero_add, Nat.reduceAdd]
  repeat' refine congrArg₂ (· + ·) ?_ ?_
  all_goals exact pad_ago (fun s => pj a0 a1 a2 b s ⟨3016 + j.val, by omega⟩) s 15 _ (by omega) _ (by omega)

theorem v188_at (b : Fin 8) (s : Fin 2048) (j : Fin 64) :
    val_main_v188 (F := Ideal) a0 a1 a2 (ix3 b s j) = Ideal.div (tsum (ago (fun s => pj a0 a1 a2 b s ⟨3016 + j.val, by omega⟩) s) 15) (min (posOf s.val + 1) (Ideal.ofBits FTy.f32 0x41800000#32)) := by
  rw [← v179_at]
  unfold posOf
  pointwise [val_main_v188, val_main_v187, val_main_v186, val_main_v185, val_main_v184, val_main_v183, val_main_v182, val_main_v181, val_main_v180, val_main_cst_16, val_main_cst_17]

theorem v190_at (b : Fin 8) (s : Fin 2048) (e : Fin 256) :
    val_main_v190 (F := Ideal) a0 a1 a2 (ix3 b s e) = pooled (fun s => pj a0 a1 a2 b s ⟨2824 + e.val, by omega⟩) s (e.val / 64) := by
  pointwise [val_main_v190, val_main_v189]
  have h27 : val_main_v27 (F := Ideal) a0 a1 a2 (ix3 b s e) = pj a0 a1 a2 b s ⟨2824 + e.val, by omega⟩ := by
    rw [← v17_at]
    pointwise [val_main_v27]
  rw [h27]
  unfold pooled wsum widthOf
  by_cases h0 : e.val < 64
  · have hg : e.val / 64 = 0 := by omega
    rw [dif_pos h0, v102_at, hg]
    rfl
  rw [dif_neg h0]
  by_cases h1 : e.val - 64 < 64
  · have hg : e.val / 64 = 1 := by omega
    have he : ∀ s, pj a0 a1 a2 b s ⟨2888 + (e.val - 64), by omega⟩ = pj a0 a1 a2 b s ⟨2824 + e.val, by omega⟩ := fun s => congrArg (pj a0 a1 a2 b s) (Fin.ext (by show 2888 + (e.val - 64) = 2824 + e.val; omega))
    rw [dif_pos h1, v120_at, hg]
    dsimp only
    simp only [he]
    rfl
  rw [dif_neg h1]
  by_cases h2 : e.val - 64 - 64 < 64
  · have hg : e.val / 64 = 2 := by omega
    have he : ∀ s, pj a0 a1 a2 b s ⟨2952 + (e.val - 64 - 64), by omega⟩ = pj a0 a1 a2 b s ⟨2824 + e.val, by omega⟩ := fun s => congrArg (pj a0 a1 a2 b s) (Fin.ext (by show 2952 + (e.val - 64 - 64) = 2824 + e.val; omega))
    rw [dif_pos h2, v146_at, hg]
    dsimp only
    simp only [he]
    rfl
  rw [dif_neg h2]
  have hg : e.val / 64 = 3 := by omega
  have he : ∀ s, pj a0 a1 a2 b s ⟨3016 + (e.val - 64 - 64 - 64), by omega⟩ = pj a0 a1 a2 b s ⟨2824 + e.val, by omega⟩ := fun s => congrArg (pj a0 a1 a2 b s) (Fin.ext (by show 3016 + (e.val - 64 - 64 - 64) = 2824 + e.val; omega))
  rw [v188_at, hg]
  dsimp only
  simp only [he]
  rfl

theorem v196_at (b : Fin 8) (s : Fin 2048) (e : Fin 256) :
    val_main_v196 (F := Ideal) a0 a1 a2 a7 (ix3 b s e) = ∑ k : Fin 64, a7 (ix4 0 ⟨e.val / 64, by omega⟩ k ⟨e.val % 64, by omega⟩) * pooled (fun s => pj a0 a1 a2 b s ⟨2824 + (e.val / 64 * 64 + k.val), by omega⟩) s (e.val / 64) := by
  pointwise [val_main_v196, val_main_v195, val_main_v194, val_main_v193, val_main_v192, val_main_v191]
  refine Finset.sum_congr rfl (fun k _ => ?_)
  rw [v190_at]
  refine congrArg (fun g : ℕ => a7 (ix4 0 ⟨e.val / 64, by omega⟩ k ⟨e.val % 64, by omega⟩) * pooled (fun s => pj a0 a1 a2 b s ⟨2824 + (e.val / 64 * 64 + k.val), by omega⟩) s g) ?_
  show (e.val / 64 * 64 + k.val) / 64 = e.val / 64
  omega

theorem v236_at (R : Fin 16384) (e : Fin 256) :
    val_main_v236 (F := Ideal) a0 a1 a2 a7 a8 a9 (ix2 R e) = rms c256 (fun e => (∑ k : Fin 64, a7 (ix4 0 ⟨e.val / 64, by omega⟩ k ⟨e.val % 64, by omega⟩) * pooled (fun s => pj a0 a1 a2 (rb R) s ⟨2824 + (e.val / 64 * 64 + k.val), by omega⟩) (rs R) (e.val / 64)) * a8 (ix2 0 e)) (fun e => a9 (ix2 0 e)) e := by
  simp only [← v196_at]
  pointwise [val_main_v236, val_main_v235, val_main_v216, val_main_v215, val_main_v214, val_main_v213, val_main_v212, val_main_v211, val_main_v210, val_main_v209, val_main_v208, val_main_v207, val_main_v206, val_main_v205, val_main_v204, val_main_v203, val_main_v202, val_main_v201, val_main_v200, val_main_v199, val_main_v198, val_main_v197, val_main_cst_18, val_main_cst_19, val_main_cst_20]
  rfl

end Cert.Reference2Ideal.In
-- ==== Proof.InRow.lean ====
module

public import proofs.«01_k».proof.Proof.InAt
public import proofs.«01_k».proof.Proof.Ref2

@[expose] public section
set_option backward.proofsInPublic true
set_option maxRecDepth 16384
noncomputable section
namespace Cert.Kernel2Ideal.In
open Cert.Kernel2Ideal Cert.Kernel2Ideal.Gen Idealize.ShloMosaic Idealize.ShloMosaic.TcCoe Idealize.SL.Sem Cert.Model
open Cert.Reference2Ideal.In (pj qk)

variable (m : (ℓ : Loc nD τ sig) → Buf (Elt Ideal) ℓ) (c : Dev nD)

/-- The arguments of the run, on a device. -/
abbrev g0 := m ((c : Thread nD τ).loc main_arg0)
abbrev g1 := m ((c : Thread nD τ).loc main_arg1)
abbrev g2 := m ((c : Thread nD τ).loc main_arg2)
abbrev g3 := m ((c : Thread nD τ).loc main_arg3)
abbrev g4 := m ((c : Thread nD τ).loc main_arg4)
abbrev g5 := m ((c : Thread nD τ).loc main_arg5)
abbrev g6 := m ((c : Thread nD τ).loc main_arg6)
abbrev g7 := m ((c : Thread nD τ).loc main_arg7)
abbrev g8 := m ((c : Thread nD τ).loc main_arg8)
abbrev g9 := m ((c : Thread nD τ).loc main_arg9)

/-- A row of the projection of a sequence. -/
abbrev kj (b : Fin 8) (s : Fin 2048) (e : Fin 3080) : EReal := pj (g0 m c) (g1 m c) (g2 m c) b s e
abbrev kqk (b : Fin 8) (s : Fin 2048) (e : Fin 1024) : EReal := qk (g0 m c) (g1 m c) (g2 m c) (g3 m c) (g4 m c) b s e

/-- The factor of the queries is an eighth over the logarithm of two. -/
theorem scale_at (a : EReal) : a * sbscale = Ideal.div (a * Ideal.ofBits FTy.f32 0x3E000000#32) (Ideal.log (Ideal.ofBits FTy.f32 0x40000000#32)) := by
  have h8 : Ideal.ofBits FTy.f32 0x3E000000#32 = ((1 / 8 : ℝ) : EReal) := by
    simp [Ideal.ofBits, Ideal.ieee, -EReal.coe_mul]; norm_num
  have h2 : Ideal.ofBits FTy.f32 0x40000000#32 = ((2 : ℝ) : EReal) := by
    simp [Ideal.ofBits, Ideal.ieee, -EReal.coe_mul]; norm_num
  have hs : sbscale = (((1 / 8) * (Real.log 2)⁻¹ : ℝ) : EReal) := IdealRules.named_const.ideal_named_scalar _ _ _ _ rfl
  have hl : Ideal.log ((2 : ℝ) : EReal) = ((Real.log 2 : ℝ) : EReal) := by
    rw [Ideal.log_coe, if_neg (by norm_num)]
  have h0 : Real.log 2 ≠ 0 := (Real.log_pos (by norm_num)).ne'
  rw [hs, h8, h2, hl, Ideal.div_coe h0, mul_assoc, ← EReal.coe_mul, one_div (Real.log 2)]

theorem hw_blk (t : Fin cfg0.N) (r : Fin 1024) (w : Fin 1024 → EReal) (e : Fin 3080) (h : ∀ k, w k = g2 m c (ix3 0 k e)) :
    hw (iblk m c 0 t) (iblk m c 1 t) r w = kj m c (bOf t) (sOf t r) e := by
  unfold hw
  refine Finset.sum_congr rfl (fun k _ => congrArg₂ (· * ·) ?_ (h k))
  exact congrArg₂ (fun f g => rms c1024 f g k) (funext fun d => blk0 m c t r d) (funext fun d => blk1 m c t d)

theorem kj_congr (b : Fin 8) (s : Fin 2048) (e e' : Fin 3080) (h : e.val = e'.val) : kj m c b s e = kj m c b s e' := by
  rw [Fin.ext h]

theorem v_row (t : Fin cfg0.N) (r : Fin 1024) (j : Fin 512) : OV (iblk m c 0 t) (iblk m c 1 t) (iblk m c 2 t) (ix2 r j) = kj m c (bOf t) (sOf t r) ⟨1024 + j.val, by omega⟩ :=
  (OV_at _ _ _ r j).trans (hw_blk m c t r _ _ fun k => blk2 m c t k _)

theorem o_row (t : Fin cfg0.N) (r : Fin 1024) (j : Fin 512) : OO (iblk m c 0 t) (iblk m c 1 t) (iblk m c 2 t) (ix2 r j) = kj m c (bOf t) (sOf t r) ⟨1536 + j.val, by omega⟩ :=
  (OO_at _ _ _ r j).trans (hw_blk m c t r _ _ fun k => blk2 m c t k _)

theorem qs_row (t : Fin cfg0.N) (h : Fin 4) (r : Fin 1024) (j : Fin 64) : OQS (iblk m c 0 t) (iblk m c 1 t) (iblk m c 3 t) (ix3 h r j)
    = Ideal.div (kj m c (bOf t) (sOf t r) ⟨2056 + (h.val * 64 + j.val), by omega⟩ * Ideal.ofBits FTy.f32 0x3E000000#32) (Ideal.log (Ideal.ofBits FTy.f32 0x40000000#32)) :=
  (OQS_at _ _ _ h r j).trans ((scale_at _).trans (congrArg (fun a => Ideal.div (a * Ideal.ofBits FTy.f32 0x3E000000#32) (Ideal.log (Ideal.ofBits FTy.f32 0x40000000#32)))
    (hw_blk m c t r _ _ fun k => blk3 m c t k _)))

theorem ks_row (t : Fin cfg0.N) (h : Fin 4) (r : Fin 1024) (j : Fin 64) : OKS (iblk m c 0 t) (iblk m c 1 t) (iblk m c 3 t) (ix3 h r j)
    = kj m c (bOf t) (sOf t r) ⟨2312 + (h.val * 64 + j.val), by omega⟩ :=
  (OKS_at _ _ _ h r j).trans ((hw_blk m c t r _ _ fun k => blk3 m c t k _).trans (kj_congr m c _ _ _ _ (by show 2056 + (256 + (h.val * 64 + j.val)) = 2312 + (h.val * 64 + j.val); omega)))

theorem vs_row (t : Fin cfg0.N) (h : Fin 4) (r : Fin 1024) (j : Fin 64) : OVS (iblk m c 0 t) (iblk m c 1 t) (iblk m c 3 t) (ix3 h r j)
    = kj m c (bOf t) (sOf t r) ⟨2568 + (h.val * 64 + j.val), by omega⟩ :=
  (OVS_at _ _ _ h r j).trans ((hw_blk m c t r _ _ fun k => blk3 m c t k _).trans (kj_congr m c _ _ _ _ (by show 2056 + (512 + (h.val * 64 + j.val)) = 2568 + (h.val * 64 + j.val); omega)))

theorem qkb_row (t : Fin cfg0.N) (r j : Fin 1024) : QKB (iblk m c 0 t) (iblk m c 1 t) (iblk m c 2 t) (ix2 r j) = kj m c (bOf t) (sOf t r) ⟨j.val, by omega⟩ :=
  (QKB_at _ _ _ r j).trans (hw_blk m c t r _ _ fun k => blk2 m c t k _)

theorem hwu_row (t : Fin cfg0.N) (r : Fin 1024) (j : Fin 256) : hw (iblk m c 0 t) (iblk m c 1 t) r (fun k => iblk m c 3 t (ix3 0 k ⟨768 + j.val, by omega⟩)) = kj m c (bOf t) (sOf t r) ⟨2824 + j.val, by omega⟩ :=
  (hw_blk m c t r _ _ fun k => blk3 m c t k _).trans (kj_congr m c _ _ _ _ (by show 2056 + (768 + j.val) = 2824 + j.val; omega))

theorem ub_row (t : Fin cfg0.N) (r : Fin 1024) (j : Fin 256) : UB (iblk m c 0 t) (iblk m c 1 t) (iblk m c 3 t) (ix2 r j) = kj m c (bOf t) (sOf t r) ⟨2824 + j.val, by omega⟩ :=
  (UB_at _ _ _ r j).trans (hwu_row m c t r j)

/-- The rows above a tile are the sequence's rows before it, or zero at its start. -/
def CarQ (t : Fin cfg0.N) (g : Vec Ideal S8x1024 .f32) : Prop :=
  ∀ (q : Fin 8) (j : Fin 1024), g (ix2 q j) = if t.val % 2 = 0 then (0 : EReal) else kj m c (bOf t) ⟨1016 + q.val, by omega⟩ ⟨j.val, by omega⟩
def CarU (t : Fin cfg0.N) (g : Vec Ideal S16x256 .f32) : Prop :=
  ∀ (q : Fin 16) (j : Fin 256), g (ix2 q j) = if t.val % 2 = 0 then (0 : EReal) else kj m c (bOf t) ⟨1008 + q.val, by omega⟩ ⟨2824 + j.val, by omega⟩

theorem extq_ago (t : Fin cfg0.N) (g : Vec Ideal S8x1024 .f32) (hg : CarQ m c t g) (r j : Fin 1024) (q n : ℕ) (hn : n ≤ 3) (hq : q + n = 8 + r.val) :
    EXTQ (QKB (iblk m c 0 t) (iblk m c 1 t) (iblk m c 2 t)) g (ix2 ⟨q, by omega⟩ j) = ago (fun s => kj m c (bOf t) s ⟨j.val, by omega⟩) (sOf t r) n := by
  have hs : (sOf t r).val = t.val % 2 * 1024 + r.val := rfl
  unfold ago
  by_cases h : 8 ≤ q
  · rw [dif_pos (by rw [hs]; omega)]
    refine (EXTQ_low _ g q h (by omega) j).trans ((qkb_row m c t _ j).trans (congrArg (fun s => kj m c (bOf t) s ⟨j.val, by omega⟩) (Fin.ext ?_)))
    show t.val % 2 * 1024 + (q - 8) = t.val % 2 * 1024 + r.val - n
    omega
  · refine (EXTQ_high _ g q (by omega) j).trans ((hg _ j).trans ?_)
    by_cases h0 : t.val % 2 = 0
    · rw [if_pos h0, dif_neg (by rw [hs]; omega)]
    · rw [if_neg h0, dif_pos (by rw [hs]; omega)]
      refine congrArg (fun s => kj m c (bOf t) s ⟨j.val, by omega⟩) (Fin.ext ?_)
      show 1016 + q = t.val % 2 * 1024 + r.val - n
      omega

theorem extu_at (t : Fin cfg0.N) (g : Vec Ideal S16x256 .f32) (hg : CarU m c t g) (r : Fin 1024) (j : Fin 256) (q n : ℕ) (hn : n ≤ 15) (hq : q + n = 16 + r.val) :
    EXTU (UB (iblk m c 0 t) (iblk m c 1 t) (iblk m c 3 t)) g (ix2 ⟨q, by omega⟩ j) = ago (fun s => kj m c (bOf t) s ⟨2824 + j.val, by omega⟩) (sOf t r) n := by
  have hs : (sOf t r).val = t.val % 2 * 1024 + r.val := rfl
  unfold ago
  by_cases h : 16 ≤ q
  · rw [dif_pos (by rw [hs]; omega)]
    refine (EXTU_low _ g q h (by omega) j).trans ((ub_row m c t _ j).trans (congrArg (fun s => kj m c (bOf t) s ⟨2824 + j.val, by omega⟩) (Fin.ext ?_)))
    show t.val % 2 * 1024 + (q - 16) = t.val % 2 * 1024 + r.val - n
    omega
  · refine (EXTU_high _ g q (by omega) j).trans ((hg _ j).trans ?_)
    by_cases h0 : t.val % 2 = 0
    · rw [if_pos h0, dif_neg (by rw [hs]; omega)]
    · rw [if_neg h0, dif_pos (by rw [hs]; omega)]
      refine congrArg (fun s => kj m c (bOf t) s ⟨2824 + j.val, by omega⟩) (Fin.ext ?_)
      show 1008 + q = t.val % 2 * 1024 + r.val - n
      omega

theorem extu_ago (t : Fin cfg0.N) (g : Vec Ideal S16x256 .f32) (hg : CarU m c t g) (r : Fin 1024) (j : Fin 256) (n : ℕ) (hn : n ≤ 15) :
    up (EXTU (UB (iblk m c 0 t) (iblk m c 1 t) (iblk m c 3 t)) g) r j n = ago (fun s => kj m c (bOf t) s ⟨2824 + j.val, by omega⟩) (sOf t r) n := by
  unfold up
  exact extu_at m c t g hg r j _ n hn (by omega)

theorem conv4_congr {b b' w0 w0' w1 w1' w2 w2' w3 w3' u0 u0' u1 u1' u2 u2' u3 u3' : EReal} (hb : b = b') (h0 : w0 = w0') (h1 : w1 = w1') (h2 : w2 = w2') (h3 : w3 = w3')
    (k0 : u0 = u0') (k1 : u1 = u1') (k2 : u2 = u2') (k3 : u3 = u3') : conv4 b w0 w1 w2 w3 u0 u1 u2 u3 = conv4 b' w0' w1' w2' w3' u0' u1' u2' u3' := by
  subst hb h0 h1 h2 h3 k0 k1 k2 k3; rfl

theorem qkt_row (t : Fin cfg0.N) (g : Vec Ideal S8x1024 .f32) (hg : CarQ m c t g) (r j : Fin 1024) :
    qkt (iblk m c 0 t) (iblk m c 1 t) (iblk m c 2 t) (iblk m c 5 t) (iblk m c 6 t) g r j = kqk m c (bOf t) (sOf t r) j :=
  congrArg siluk (conv4_congr (blk6 m c t j) (blk5 m c t 0 j) (blk5 m c t 1 j) (blk5 m c t 2 j) (blk5 m c t 3 j)
    (extq_ago m c t g hg r j _ 0 (by omega) (by omega)) (extq_ago m c t g hg r j _ 1 (by omega) (by omega)) (extq_ago m c t g hg r j _ 2 (by omega) (by omega)) (extq_ago m c t g hg r j _ 3 (by omega) (by omega)))

theorem q_row (t : Fin cfg0.N) (g : Vec Ideal S8x1024 .f32) (hg : CarQ m c t g) (r : Fin 1024) (j : Fin 512) :
    OQ (iblk m c 0 t) (iblk m c 1 t) (iblk m c 2 t) (iblk m c 5 t) (iblk m c 6 t) g (ix2 r j) = kqk m c (bOf t) (sOf t r) ⟨j.val, by omega⟩ :=
  (OQ_at _ _ _ _ _ g r j).trans (qkt_row m c t g hg r _)

theorem k_row (t : Fin cfg0.N) (g : Vec Ideal S8x1024 .f32) (hg : CarQ m c t g) (r : Fin 1024) (j : Fin 512) :
    OK (iblk m c 0 t) (iblk m c 1 t) (iblk m c 2 t) (iblk m c 5 t) (iblk m c 6 t) g (ix2 r j) = kqk m c (bOf t) (sOf t r) ⟨512 + j.val, by omega⟩ * kscale :=
  (OK_at _ _ _ _ _ g r j).trans (congrArg (· * kscale) (qkt_row m c t g hg r _))

/-- A row of the gates. -/
def gat (b : Fin 8) (s : Fin 2048) (e : Fin 128) : EReal :=
  if h : e.val < 4 then kj m c b s ⟨2048 + e.val, by omega⟩ + g5 m c (ix2 0 ⟨e.val, h⟩)
  else if h' : e.val < 8 then lsigk (kj m c b s ⟨2048 + e.val, by omega⟩ + g6 m c (ix2 0 ⟨e.val - 4, by omega⟩)) else lsigk 0

theorem g_row (t : Fin cfg0.N) (r : Fin 1024) (e : Fin 128) : OG (iblk m c 0 t) (iblk m c 1 t) (iblk m c 4 t) (iblk m c 7 t) (ix2 r e) = gat m c (bOf t) (sOf t r) e := by
  refine (OG_at _ _ _ _ r e).trans ?_
  unfold gat
  by_cases h : e.val < 4
  · rw [if_pos h, dif_pos h]
    exact congrArg₂ (· + ·) (hw_blk m c t r _ _ fun k => (blk4 m c t k e).trans (dif_pos (by omega))) ((blk7 m c t e).trans (dif_pos h))
  · rw [if_neg h, dif_neg h]
    by_cases h' : e.val < 8
    · rw [dif_pos h']
      exact congrArg lsigk (congrArg₂ (· + ·) (hw_blk m c t r _ _ fun k => (blk4 m c t k e).trans (dif_pos h')) ((blk7 m c t e).trans ((dif_neg h).trans (dif_pos h'))))
    · rw [dif_neg h']
      refine congrArg lsigk ((congrArg₂ (· + ·) (?_ : _ = (0 : EReal)) ((blk7 m c t e).trans ((dif_neg h).trans (dif_neg h')))).trans (add_zero _))
      exact Finset.sum_eq_zero fun k _ => (congrArg₂ (· * ·) rfl ((blk4 m c t k e).trans (dif_neg h'))).trans (mul_zero _)

theorem tsum_congr (f g : ℕ → EReal) (n : ℕ) (h : ∀ i ≤ n, f i = g i) : tsum f n = tsum g n := by
  induction n with
  | zero => rw [tsum_zero, tsum_zero, h 0 le_rfl]
  | succ n ih => rw [tsum_succ, tsum_succ, ih fun i hi => h i (by omega), h (n + 1) le_rfl]

theorem pld_row (t : Fin cfg0.N) (g : Vec Ideal S16x256 .f32) (hg : CarU m c t g) (r : Fin 1024) (k : Fin 256) :
    pldt (iblk m c 0 t) (iblk m c 1 t) (iblk m c 3 t) g (t.val % 2) r k = pooled (fun s => kj m c (bOf t) s ⟨2824 + k.val, by omega⟩) (sOf t r) (k.val / 64) := by
  unfold pldt pooled wsum
  rw [tsum_congr _ _ 1 fun i hi => extu_ago m c t g hg r k i (by omega), tsum_congr _ _ 3 fun i hi => extu_ago m c t g hg r k i (by omega),
    tsum_congr _ _ 7 fun i hi => extu_ago m c t g hg r k i (by omega), tsum_congr _ _ 15 fun i hi => extu_ago m c t g hg r k i (by omega)]
  exact congrArg₂ (· - ·) rfl (hwu_row m c t r k)

theorem sum_bd (f w : Fin 256 → EReal) (e : ℕ) (he : e < 4) (h : ∀ k : Fin 256, ¬ k.val / 64 = e → w k = 0) :
    ∑ k, f k * w k = ∑ k : Fin 64, w ⟨e * 64 + k.val, by omega⟩ * f ⟨e * 64 + k.val, by omega⟩ := by
  symm
  refine Finset.sum_of_injOn (fun k : Fin 64 => (⟨e * 64 + k.val, by omega⟩ : Fin 256)) ?_ ?_ ?_ ?_
  · intro a _ b _ hab
    have := congrArg Fin.val hab
    change e * 64 + a.val = e * 64 + b.val at this
    exact Fin.ext (by omega)
  · intro a _; simp
  · intro k _ hk
    rw [h k, mul_zero]
    intro hk'
    refine hk ⟨⟨k.val % 64, by omega⟩, by simp, Fin.ext ?_⟩
    show e * 64 + k.val % 64 = k.val
    omega
  · intro k _
    exact mul_comm _ _

theorem tw_at : ∀ t : Fin cfg0.N, TW (grid0.coords t) = BitVec.ofNat 32 (t.val % 2) := by decide +kernel

/-- A row of the pooled branch over the pool's weights. -/
def ypo (w : S2x4x64x64.Idx → EReal) (p g : S2x256.Idx → EReal) (u : Fin 3080 → Fin 2048 → EReal) (s : Fin 2048) (j : Fin 256) : EReal :=
  rms c256 (fun e => (∑ k : Fin 64, w (ix4 0 ⟨e.val / 64, by omega⟩ k ⟨e.val % 64, by omega⟩) * pooled (u ⟨2824 + (e.val / 64 * 64 + k.val), by omega⟩) s (e.val / 64)) * p (ix2 0 e)) (fun e => g (ix2 0 e)) j

/-- A row of the pooled branch. -/
def ypr (b : Fin 8) (s : Fin 2048) (j : Fin 256) : EReal := ypo (g7 m c) (g8 m c) (g9 m c) (fun e s => kj m c b s e) s j

/-- One entry of a block-diagonal weight. -/
def w8 (w : S2x4x64x64.Idx → EReal) (k e : Fin 256) : EReal := if k.val / 64 = e.val / 64 then w (ix4 0 ⟨k.val / 64, by omega⟩ ⟨k.val % 64, by omega⟩ ⟨e.val % 64, by omega⟩) else 0

theorem w8_on (w : S2x4x64x64.Idx → EReal) (e : Fin 256) (k : Fin 64) : w8 w ⟨e.val / 64 * 64 + k.val, by omega⟩ e = w (ix4 0 ⟨e.val / 64, by omega⟩ k ⟨e.val % 64, by omega⟩) := by
  have h1 : (e.val / 64 * 64 + k.val) / 64 = e.val / 64 := by omega
  have h2 : (e.val / 64 * 64 + k.val) % 64 = k.val := by omega
  unfold w8
  rw [if_pos h1]
  exact congrArg₂ (fun a b => w (ix4 0 a b ⟨e.val % 64, by omega⟩)) (Fin.ext h1) (Fin.ext h2)

theorem w8_off (w : S2x4x64x64.Idx → EReal) (k e : Fin 256) (h : ¬ k.val / 64 = e.val / 64) : w8 w k e = 0 := if_neg h

theorem y_row (t : Fin cfg0.N) (g : Vec Ideal S16x256 .f32) (hg : CarU m c t g) (r : Fin 1024) (j : Fin 256) :
    OY (grid0.coords t) (iblk m c 0 t) (iblk m c 1 t) (iblk m c 3 t) (iblk m c 8 t) (iblk m c 9 t) (iblk m c 10 t) g (ix2 r j) = ypr m c (bOf t) (sOf t r) j := by
  refine (OY_at _ _ _ _ (t.val % 2) (tw_at t) _ _ _ g r j).trans ?_
  unfold ypr ypo
  refine congrArg₂ (fun f g => rms c256 f g j) (funext fun e => congrArg₂ (fun a b : EReal => a * b) ?_ (blk9 m c t e)) (funext fun e => blk10 m c t e)
  refine (Finset.sum_congr rfl fun k _ => congrArg₂ (fun a b : EReal => a * b) (pld_row m c t g hg r k) ((blk8 m c t k e).trans (show _ = w8 (g7 m c) k e from rfl))).trans ?_
  refine (sum_bd _ _ (e.val / 64) (by omega) fun k hk => w8_off _ k e hk).trans (Finset.sum_congr rfl fun k _ => ?_)
  have h1 : (e.val / 64 * 64 + k.val) / 64 = e.val / 64 := by omega
  exact congrArg₂ (fun a b : EReal => a * b) (w8_on _ e k) (congrArg (fun n => pooled (fun s => kj m c (bOf t) s ⟨2824 + (e.val / 64 * 64 + k.val), by omega⟩) (sOf t r) n) h1)

end Cert.Kernel2Ideal.In
-- ==== Proof.InValA.lean ====
module

public import proofs.«01_k».proof.Proof.InVoc
public import Idealize.ShloMosaic.Lib.Pipeline.ValueKit
public import Idealize.ShloMosaic.Lib.Pipeline.ReadBack

@[expose] public section
set_option maxRecDepth 16384
noncomputable section
namespace Cert.Kernel2Ideal.In
open Cert.Kernel2Ideal Cert.Kernel2Ideal.Gen Idealize.ShloMosaic Idealize.ShloMosaic.TcCoe Idealize.SL.Sem

variable {F : FTy → Type} [FloatOps F] [Named F]

set_option maxHeartbeats 8000000 in
theorem out0_A_11_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OQ (View.read (Elt F) a1.view (h1.unread x0)) (View.read (Elt F) a2.view (h2.unread x1)) (View.read (Elt F) a3.view (h3.unread x2)) (View.read (Elt F) a6.view (h6.unread x5)) (View.read (Elt F) a7.view (h7.unread x6)) k0_pay3 := by
  frame_open
  try simp (disch := decide) only [View.read_writes_junk_eq_canon]
  try simp (disch := decide) only [↓ View.readCov_skip, ↓ View.readCov_cons_toLoadRect, ↓ View.readCov_fill]
  simp only [whole_read2]
  rw [View.canon_cons_unit_lit' _ _ _ (by decide)]
  sl_kernel_rfl

theorem out0_A_11_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OQ x0 x1 x2 x5 x6 k0_pay3 := by
  have h := out0_A_11_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h3.read_unread, h6.read_unread, h7.read_unread] at h
  exact h

set_option maxHeartbeats 8000000 in
theorem out0_A_12_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OK (View.read (Elt F) a1.view (h1.unread x0)) (View.read (Elt F) a2.view (h2.unread x1)) (View.read (Elt F) a3.view (h3.unread x2)) (View.read (Elt F) a6.view (h6.unread x5)) (View.read (Elt F) a7.view (h7.unread x6)) k0_pay3 := by
  frame_open
  try simp (disch := decide) only [View.read_writes_junk_eq_canon]
  try simp (disch := decide) only [↓ View.readCov_skip, ↓ View.readCov_cons_toLoadRect, ↓ View.readCov_fill]
  simp only [whole_read2]
  rw [View.canon_cons_unit_lit' _ _ _ (by decide)]
  sl_kernel_rfl

theorem out0_A_12_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OK x0 x1 x2 x5 x6 k0_pay3 := by
  have h := out0_A_12_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h3.read_unread, h6.read_unread, h7.read_unread] at h
  exact h

set_option maxHeartbeats 8000000 in
theorem out0_A_13_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OV (View.read (Elt F) a1.view (h1.unread x0)) (View.read (Elt F) a2.view (h2.unread x1)) (View.read (Elt F) a3.view (h3.unread x2)) := by
  frame_open
  try simp (disch := decide) only [View.read_writes_junk_eq_canon]
  try simp (disch := decide) only [↓ View.readCov_skip, ↓ View.readCov_cons_toLoadRect, ↓ View.readCov_fill]
  rw [View.canon_cons_unit_lit' _ _ _ (by decide)]
  sl_kernel_rfl

theorem out0_A_13_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OV x0 x1 x2 := by
  have h := out0_A_13_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h3.read_unread] at h
  exact h

set_option maxHeartbeats 8000000 in
theorem out0_A_14_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OO (View.read (Elt F) a1.view (h1.unread x0)) (View.read (Elt F) a2.view (h2.unread x1)) (View.read (Elt F) a3.view (h3.unread x2)) := by
  frame_open
  try simp (disch := decide) only [View.read_writes_junk_eq_canon]
  try simp (disch := decide) only [↓ View.readCov_skip, ↓ View.readCov_cons_toLoadRect, ↓ View.readCov_fill]
  rw [View.canon_cons_unit_lit' _ _ _ (by decide)]
  sl_kernel_rfl

theorem out0_A_14_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OO x0 x1 x2 := by
  have h := out0_A_14_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h3.read_unread] at h
  exact h

set_option maxHeartbeats 8000000 in
theorem out0_A_15_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OG (View.read (Elt F) a1.view (h1.unread x0)) (View.read (Elt F) a2.view (h2.unread x1)) (View.read (Elt F) a5.view (h5.unread x4)) (View.read (Elt F) a8.view (h8.unread x7)) := by
  frame_open
  try simp (disch := decide) only [View.read_writes_junk_eq_canon]
  try simp (disch := decide) only [↓ View.readCov_skip, ↓ View.readCov_cons_toLoadRect, ↓ View.readCov_fill]
  rw [View.canon_cons_unit_lit' _ _ _ (by decide)]
  sl_kernel_rfl

theorem out0_A_15_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OG x0 x1 x4 x7 := by
  have h := out0_A_15_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h5.read_unread, h8.read_unread] at h
  exact h

set_option maxHeartbeats 8000000 in
theorem out0_A_16_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OQS (View.read (Elt F) a1.view (h1.unread x0)) (View.read (Elt F) a2.view (h2.unread x1)) (View.read (Elt F) a4.view (h4.unread x3)) := by
  frame_open
  try simp (disch := decide) only [View.read_writes_junk_eq_canon]
  try simp (disch := decide) only [↓ View.readCov_skip, ↓ View.readCov_cons_toLoadRect, ↓ View.readCov_fill]

  sl_kernel_rfl

theorem out0_A_16_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OQS x0 x1 x3 := by
  have h := out0_A_16_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h4.read_unread] at h
  exact h

set_option maxHeartbeats 8000000 in
theorem out0_A_17_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OKS (View.read (Elt F) a1.view (h1.unread x0)) (View.read (Elt F) a2.view (h2.unread x1)) (View.read (Elt F) a4.view (h4.unread x3)) := by
  frame_open
  try simp (disch := decide) only [View.read_writes_junk_eq_canon]
  try simp (disch := decide) only [↓ View.readCov_skip, ↓ View.readCov_cons_toLoadRect, ↓ View.readCov_fill]

  sl_kernel_rfl

theorem out0_A_17_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OKS x0 x1 x3 := by
  have h := out0_A_17_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h4.read_unread] at h
  exact h

set_option maxHeartbeats 8000000 in
theorem out0_A_18_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OVS (View.read (Elt F) a1.view (h1.unread x0)) (View.read (Elt F) a2.view (h2.unread x1)) (View.read (Elt F) a4.view (h4.unread x3)) := by
  frame_open
  try simp (disch := decide) only [View.read_writes_junk_eq_canon]
  try simp (disch := decide) only [↓ View.readCov_skip, ↓ View.readCov_cons_toLoadRect, ↓ View.readCov_fill]

  sl_kernel_rfl

theorem out0_A_18_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OVS x0 x1 x3 := by
  have h := out0_A_18_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h4.read_unread] at h
  exact h

set_option maxHeartbeats 8000000 in
theorem out0_A_19_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OY i (View.read (Elt F) a1.view (h1.unread x0)) (View.read (Elt F) a2.view (h2.unread x1)) (View.read (Elt F) a4.view (h4.unread x3)) (View.read (Elt F) a9.view (h9.unread x8)) (View.read (Elt F) a10.view (h10.unread x9)) (View.read (Elt F) a11.view (h11.unread x10)) k0_pay4 := by
  frame_open
  try simp (disch := decide) only [View.read_writes_junk_eq_canon]
  try simp (disch := decide) only [↓ View.readCov_skip, ↓ View.readCov_cons_toLoadRect, ↓ View.readCov_fill]
  simp only [whole_read2]
  rw [View.canon_cons_unit_lit' _ _ _ (by decide)]
  sl_kernel_rfl

theorem out0_A_19_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    out0_A_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = OY i x0 x1 x3 x8 x9 x10 k0_pay4 := by
  have h := out0_A_19_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h4.read_unread, h9.read_unread, h10.read_unread, h11.read_unread] at h
  exact h

set_option maxHeartbeats 8000000 in
theorem sout0_A_0_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = EXTQ (QKB (View.read (Elt F) a1.view (h1.unread x0)) (View.read (Elt F) a2.view (h2.unread x1)) (View.read (Elt F) a3.view (h3.unread x2))) k0_pay3 := by
  frame_open
  try simp (disch := decide) only [View.read_writes_junk_eq_canon]
  try simp (disch := decide) only [↓ View.readCov_skip, ↓ View.readCov_cons_toLoadRect, ↓ View.readCov_fill]

  sl_kernel_rfl

theorem sout0_A_0_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = EXTQ (QKB x0 x1 x2) k0_pay3 := by
  have h := sout0_A_0_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h3.read_unread] at h
  exact h

set_option maxHeartbeats 8000000 in
theorem sout0_A_1_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = EXTU (UB (View.read (Elt F) a1.view (h1.unread x0)) (View.read (Elt F) a2.view (h2.unread x1)) (View.read (Elt F) a4.view (h4.unread x3))) k0_pay4 := by
  frame_open
  try simp (disch := decide) only [View.read_writes_junk_eq_canon]
  try simp (disch := decide) only [↓ View.readCov_skip, ↓ View.readCov_cons_toLoadRect, ↓ View.readCov_fill]

  sl_kernel_rfl

theorem sout0_A_1_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : cond0_0 i) (hc1 : ¬ cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32)  :
    sout0_A_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 = EXTU (UB x0 x1 x3) k0_pay4 := by
  have h := sout0_A_1_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10
  simp only [h1.read_unread, h2.read_unread, h4.read_unread] at h
  exact h

end Cert.Kernel2Ideal.In
-- ==== Proof.InValB.lean ====
module

public import proofs.«01_k».proof.Proof.InVoc
public import Idealize.ShloMosaic.Lib.Pipeline.ValueKit
public import Idealize.ShloMosaic.Lib.Pipeline.ReadBack

@[expose] public section
set_option maxRecDepth 16384
noncomputable section
namespace Cert.Kernel2Ideal.In
open Cert.Kernel2Ideal Cert.Kernel2Ideal.Gen Idealize.ShloMosaic Idealize.ShloMosaic.TcCoe Idealize.SL.Sem

variable {F : FTy → Type} [FloatOps F] [Named F]

set_option maxHeartbeats 8000000 in
theorem out0_B_11_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OQ (View.read (Elt F) a1.view (h1.unread x0)) (View.read (Elt F) a2.view (h2.unread x1)) (View.read (Elt F) a3.view (h3.unread x2)) (View.read (Elt F) a6.view (h6.unread x5)) (View.read (Elt F) a7.view (h7.unread x6)) (HALQ (View.read (Elt F) a21.view (h21.unread xs0))) := by
  frame_open
  try simp (disch := decide) only [View.read_writes_junk_eq_canon]
  try simp (disch := decide) only [↓ View.readCov_skip, ↓ View.readCov_cons_toLoadRect, ↓ View.readCov_fill]
  simp only [whole_read2]
  rw [View.canon_cons_unit_lit' _ _ _ (by decide)]
  sl_kernel_rfl

theorem out0_B_11_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OQ x0 x1 x2 x5 x6 (HALQ xs0) := by
  have h := out0_B_11_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h3.read_unread, h6.read_unread, h7.read_unread, h21.read_unread] at h
  exact h

set_option maxHeartbeats 8000000 in
theorem out0_B_12_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OK (View.read (Elt F) a1.view (h1.unread x0)) (View.read (Elt F) a2.view (h2.unread x1)) (View.read (Elt F) a3.view (h3.unread x2)) (View.read (Elt F) a6.view (h6.unread x5)) (View.read (Elt F) a7.view (h7.unread x6)) (HALQ (View.read (Elt F) a21.view (h21.unread xs0))) := by
  frame_open
  try simp (disch := decide) only [View.read_writes_junk_eq_canon]
  try simp (disch := decide) only [↓ View.readCov_skip, ↓ View.readCov_cons_toLoadRect, ↓ View.readCov_fill]
  simp only [whole_read2]
  rw [View.canon_cons_unit_lit' _ _ _ (by decide)]
  sl_kernel_rfl

theorem out0_B_12_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OK x0 x1 x2 x5 x6 (HALQ xs0) := by
  have h := out0_B_12_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h3.read_unread, h6.read_unread, h7.read_unread, h21.read_unread] at h
  exact h

set_option maxHeartbeats 8000000 in
theorem out0_B_13_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OV (View.read (Elt F) a1.view (h1.unread x0)) (View.read (Elt F) a2.view (h2.unread x1)) (View.read (Elt F) a3.view (h3.unread x2)) := by
  frame_open
  try simp (disch := decide) only [View.read_writes_junk_eq_canon]
  try simp (disch := decide) only [↓ View.readCov_skip, ↓ View.readCov_cons_toLoadRect, ↓ View.readCov_fill]
  rw [View.canon_cons_unit_lit' _ _ _ (by decide)]
  sl_kernel_rfl

theorem out0_B_13_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OV x0 x1 x2 := by
  have h := out0_B_13_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h3.read_unread] at h
  exact h

set_option maxHeartbeats 8000000 in
theorem out0_B_14_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OO (View.read (Elt F) a1.view (h1.unread x0)) (View.read (Elt F) a2.view (h2.unread x1)) (View.read (Elt F) a3.view (h3.unread x2)) := by
  frame_open
  try simp (disch := decide) only [View.read_writes_junk_eq_canon]
  try simp (disch := decide) only [↓ View.readCov_skip, ↓ View.readCov_cons_toLoadRect, ↓ View.readCov_fill]
  rw [View.canon_cons_unit_lit' _ _ _ (by decide)]
  sl_kernel_rfl

theorem out0_B_14_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OO x0 x1 x2 := by
  have h := out0_B_14_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h3.read_unread] at h
  exact h

set_option maxHeartbeats 8000000 in
theorem out0_B_15_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OG (View.read (Elt F) a1.view (h1.unread x0)) (View.read (Elt F) a2.view (h2.unread x1)) (View.read (Elt F) a5.view (h5.unread x4)) (View.read (Elt F) a8.view (h8.unread x7)) := by
  frame_open
  try simp (disch := decide) only [View.read_writes_junk_eq_canon]
  try simp (disch := decide) only [↓ View.readCov_skip, ↓ View.readCov_cons_toLoadRect, ↓ View.readCov_fill]
  rw [View.canon_cons_unit_lit' _ _ _ (by decide)]
  sl_kernel_rfl

theorem out0_B_15_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OG x0 x1 x4 x7 := by
  have h := out0_B_15_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h5.read_unread, h8.read_unread] at h
  exact h

set_option maxHeartbeats 8000000 in
theorem out0_B_16_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OQS (View.read (Elt F) a1.view (h1.unread x0)) (View.read (Elt F) a2.view (h2.unread x1)) (View.read (Elt F) a4.view (h4.unread x3)) := by
  frame_open
  try simp (disch := decide) only [View.read_writes_junk_eq_canon]
  try simp (disch := decide) only [↓ View.readCov_skip, ↓ View.readCov_cons_toLoadRect, ↓ View.readCov_fill]

  sl_kernel_rfl

theorem out0_B_16_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OQS x0 x1 x3 := by
  have h := out0_B_16_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h4.read_unread] at h
  exact h

set_option maxHeartbeats 8000000 in
theorem out0_B_17_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OKS (View.read (Elt F) a1.view (h1.unread x0)) (View.read (Elt F) a2.view (h2.unread x1)) (View.read (Elt F) a4.view (h4.unread x3)) := by
  frame_open
  try simp (disch := decide) only [View.read_writes_junk_eq_canon]
  try simp (disch := decide) only [↓ View.readCov_skip, ↓ View.readCov_cons_toLoadRect, ↓ View.readCov_fill]

  sl_kernel_rfl

theorem out0_B_17_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OKS x0 x1 x3 := by
  have h := out0_B_17_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h4.read_unread] at h
  exact h

set_option maxHeartbeats 8000000 in
theorem out0_B_18_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OVS (View.read (Elt F) a1.view (h1.unread x0)) (View.read (Elt F) a2.view (h2.unread x1)) (View.read (Elt F) a4.view (h4.unread x3)) := by
  frame_open
  try simp (disch := decide) only [View.read_writes_junk_eq_canon]
  try simp (disch := decide) only [↓ View.readCov_skip, ↓ View.readCov_cons_toLoadRect, ↓ View.readCov_fill]

  sl_kernel_rfl

theorem out0_B_18_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OVS x0 x1 x3 := by
  have h := out0_B_18_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h4.read_unread] at h
  exact h

set_option maxHeartbeats 8000000 in
theorem out0_B_19_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OY i (View.read (Elt F) a1.view (h1.unread x0)) (View.read (Elt F) a2.view (h2.unread x1)) (View.read (Elt F) a4.view (h4.unread x3)) (View.read (Elt F) a9.view (h9.unread x8)) (View.read (Elt F) a10.view (h10.unread x9)) (View.read (Elt F) a11.view (h11.unread x10)) (HALU (View.read (Elt F) a22.view (h22.unread xs1))) := by
  frame_open
  try simp (disch := decide) only [View.read_writes_junk_eq_canon]
  try simp (disch := decide) only [↓ View.readCov_skip, ↓ View.readCov_cons_toLoadRect, ↓ View.readCov_fill]
  simp only [whole_read2]
  rw [View.canon_cons_unit_lit' _ _ _ (by decide)]
  sl_kernel_rfl

theorem out0_B_19_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    out0_B_19 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = OY i x0 x1 x3 x8 x9 x10 (HALU xs1) := by
  have h := out0_B_19_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h4.read_unread, h9.read_unread, h10.read_unread, h11.read_unread, h22.read_unread] at h
  exact h

set_option maxHeartbeats 8000000 in
theorem sout0_B_0_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = EXTQ (QKB (View.read (Elt F) a1.view (h1.unread x0)) (View.read (Elt F) a2.view (h2.unread x1)) (View.read (Elt F) a3.view (h3.unread x2))) (HALQ (View.read (Elt F) a21.view (h21.unread xs0))) := by
  frame_open
  try simp (disch := decide) only [View.read_writes_junk_eq_canon]
  try simp (disch := decide) only [↓ View.readCov_skip, ↓ View.readCov_cons_toLoadRect, ↓ View.readCov_fill]

  sl_kernel_rfl

theorem sout0_B_0_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = EXTQ (QKB x0 x1 x2) (HALQ xs0) := by
  have h := sout0_B_0_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h3.read_unread, h21.read_unread] at h
  exact h

set_option maxHeartbeats 8000000 in
theorem sout0_B_1_aux (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = EXTU (UB (View.read (Elt F) a1.view (h1.unread x0)) (View.read (Elt F) a2.view (h2.unread x1)) (View.read (Elt F) a4.view (h4.unread x3))) (HALU (View.read (Elt F) a22.view (h22.unread xs1))) := by
  frame_open
  try simp (disch := decide) only [View.read_writes_junk_eq_canon]
  try simp (disch := decide) only [↓ View.readCov_skip, ↓ View.readCov_cons_toLoadRect, ↓ View.readCov_fill]

  sl_kernel_rfl

theorem sout0_B_1_eq (c : Dev nD) (i : grid0.Coords) (a1 : Memref sig .tc .vmem S1024x1024 .f32) (h1 : a1.IsWhole) (a2 : Memref sig .tc .vmem S1x1x1024 .f32) (h2 : a2.IsWhole) (a3 : Memref sig .tc .vmem S1x1024x2048 .bf16) (h3 : a3.IsWhole) (a4 : Memref sig .tc .vmem S1x1024x1024 .bf16) (h4 : a4.IsWhole) (a5 : Memref sig .tc .vmem S1x1024x128 .bf16) (h5 : a5.IsWhole) (a6 : Memref sig .tc .vmem S1x4x1024 .f32) (h6 : a6.IsWhole) (a7 : Memref sig .tc .vmem S1x1x1024 .f32) (h7 : a7.IsWhole) (a8 : Memref sig .tc .vmem S1x1x128 .f32) (h8 : a8.IsWhole) (a9 : Memref sig .tc .vmem S1x256x256 .bf16) (h9 : a9.IsWhole) (a10 : Memref sig .tc .vmem S1x1x256 .f32) (h10 : a10.IsWhole) (a11 : Memref sig .tc .vmem S1x1x256 .f32) (h11 : a11.IsWhole) (a12 : Memref sig .tc .vmem S1024x512 .bf16) (h12 : a12.IsWhole) (a13 : Memref sig .tc .vmem S1024x512 .bf16) (h13 : a13.IsWhole) (a14 : Memref sig .tc .vmem S1024x512 .bf16) (h14 : a14.IsWhole) (a15 : Memref sig .tc .vmem S1024x512 .bf16) (h15 : a15.IsWhole) (a16 : Memref sig .tc .vmem S1024x128 .f32) (h16 : a16.IsWhole) (a17 : Memref sig .tc .vmem S4x1024x64 .bf16) (h17 : a17.IsWhole) (a18 : Memref sig .tc .vmem S4x1024x64 .bf16) (h18 : a18.IsWhole) (a19 : Memref sig .tc .vmem S4x1024x64 .bf16) (h19 : a19.IsWhole) (a20 : Memref sig .tc .vmem S1024x256 .bf16) (h20 : a20.IsWhole) (a21 : Memref sig .tc .vmem S1032x1024 .f32) (h21 : a21.IsWhole) (a22 : Memref sig .tc .vmem S1040x256 .f32) (h22 : a22.IsWhole) (hc0 : ¬ cond0_0 i) (hc1 : cond0_1 i) (x0 : Vec F S1024x1024 .f32) (x1 : Vec F S1x1x1024 .f32) (x2 : Vec F S1x1024x2048 .bf16) (x3 : Vec F S1x1024x1024 .bf16) (x4 : Vec F S1x1024x128 .bf16) (x5 : Vec F S1x4x1024 .f32) (x6 : Vec F S1x1x1024 .f32) (x7 : Vec F S1x1x128 .f32) (x8 : Vec F S1x256x256 .bf16) (x9 : Vec F S1x1x256 .f32) (x10 : Vec F S1x1x256 .f32) (xs0 : Vec F S1032x1024 .f32) (xs1 : Vec F S1040x256 .f32) :
    sout0_B_1 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1 = EXTU (UB x0 x1 x3) (HALU xs1) := by
  have h := sout0_B_1_aux c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 hc0 hc1 x0 x1 x2 x3 x4 x5 x6 x7 x8 x9 x10 xs0 xs1
  simp only [h1.read_unread, h2.read_unread, h4.read_unread, h22.read_unread] at h
  exact h

end Cert.Kernel2Ideal.In
-- ==== Proof.Point2.lean ====
module

public import proofs.«01_k».proof.Proof.InRow
public import proofs.«01_k».proof.Proof.InValA
public import proofs.«01_k».proof.Proof.InValB
public import proofs.«01_k».proof.Proof.Gen.Kernel2Ideal.Value

@[expose] public section
set_option backward.proofsInPublic true
set_option maxRecDepth 16384
noncomputable section
namespace Cert.Kernel2Ideal.In
open Cert.Kernel2Ideal Cert.Kernel2Ideal.Gen Cert.Kernel2Ideal.Value Idealize.ShloMosaic Idealize.ShloMosaic.TcCoe Idealize.SL.Sem Cert.Model
open Cert.Reference2Ideal.In (pj qk rb rs)

variable (m : (ℓ : Loc nD τ sig) → Buf (Elt Ideal) ℓ) (c : Dev nD)

/-- What the first tile of a sequence leaves for the next: its own columns below zeros. -/
theorem leftq_at (t : Fin cfg0.N) (h0 : t.val % 2 = 0) : (outsAt0 m c t.val t.isLt).2.2.2.2.2.2.2.2.2.1 = EXTQ (QKB (iblk m c 0 t) (iblk m c 1 t) (iblk m c 2 t)) (k0_pay3 (F := Ideal)) := by
  rw [outsAt0_A m c t h0 (by omega)]
  dsimp only
  rw [sout0_A_0_eq]

theorem leftu_at (t : Fin cfg0.N) (h0 : t.val % 2 = 0) : (outsAt0 m c t.val t.isLt).2.2.2.2.2.2.2.2.2.2 = EXTU (UB (iblk m c 0 t) (iblk m c 1 t) (iblk m c 3 t)) (k0_pay4 (F := Ideal)) := by
  rw [outsAt0_A m c t h0 (by omega)]
  dsimp only
  rw [sout0_A_1_eq]

theorem carq_A (t : Fin cfg0.N) (h0 : t.val % 2 = 0) : CarQ m c t (k0_pay3 (F := Ideal)) := fun q j => (pay3_at q j).trans (if_pos h0).symm
theorem caru_A (t : Fin cfg0.N) (h0 : t.val % 2 = 0) : CarU m c t (k0_pay4 (F := Ideal)) := fun q j => (pay4_at q j).trans (if_pos h0).symm

theorem carq_B (t t' : Fin cfg0.N) (h0 : ¬ t.val % 2 = 0) (ht : t'.val = t.val - 1) : CarQ m c t (HALQ (outsAt0 m c t'.val t'.isLt).2.2.2.2.2.2.2.2.2.1) := by
  intro q j
  have h0' : t'.val % 2 = 0 := by omega
  rw [leftq_at m c t' h0', if_neg h0, HALQ_at]
  refine (extq_ago m c t' _ (carq_A m c t' h0') ⟨1016 + q.val, by omega⟩ j (1024 + q.val) 0 (by omega) (by show 1024 + q.val + 0 = 8 + (1016 + q.val); omega)).trans ?_
  have hb : bOf t' = bOf t := Fin.ext (by show t'.val / 2 = t.val / 2; omega)
  unfold ago
  rw [dif_pos (Nat.zero_le _), hb]
  refine congrArg (fun s => kj m c (bOf t) s ⟨j.val, by omega⟩) (Fin.ext ?_)
  show t'.val % 2 * 1024 + (1016 + q.val) - 0 = 1016 + q.val
  omega

theorem caru_B (t t' : Fin cfg0.N) (h0 : ¬ t.val % 2 = 0) (ht : t'.val = t.val - 1) : CarU m c t (HALU (outsAt0 m c t'.val t'.isLt).2.2.2.2.2.2.2.2.2.2) := by
  intro q j
  have h0' : t'.val % 2 = 0 := by omega
  rw [leftu_at m c t' h0', if_neg h0, HALU_at]
  refine (extu_at m c t' _ (caru_A m c t' h0') ⟨1008 + q.val, by omega⟩ j (1024 + q.val) 0 (by omega) (by show 1024 + q.val + 0 = 16 + (1008 + q.val); omega)).trans ?_
  have hb : bOf t' = bOf t := Fin.ext (by show t'.val / 2 = t.val / 2; omega)
  unfold ago
  rw [dif_pos (Nat.zero_le _), hb]
  refine congrArg (fun s => kj m c (bOf t) s ⟨2824 + j.val, by omega⟩) (Fin.ext ?_)
  show t'.val % 2 * 1024 + (1008 + q.val) - 0 = 1008 + q.val
  omega

theorem q_pt (t : Fin cfg0.N) (r : Fin 1024) (j : Fin 512) : (outsAt0 m c t.val t.isLt).1 (ix2 r j) = kqk m c (bOf t) (sOf t r) ⟨j.val, by omega⟩ := by
  by_cases h0 : t.val % 2 = 0
  · rw [outsAt0_A m c t h0 (by omega)]
    dsimp only
    rw [out0_A_11_eq]
    exact q_row m c t _ (carq_A m c t h0) r j
  · rw [outsAt0_B m c t h0 (by omega)]
    dsimp only
    rw [out0_B_11_eq]
    let t' : Fin cfg0.N := ⟨t.val - 1, Nat.lt_of_le_of_lt (Nat.sub_le _ _) t.isLt⟩
    exact q_row m c t _ (carq_B m c t t' h0 rfl) r j

theorem q_res (R : Fin 16384) (j : Fin 512) : G11 m c (ix2 R j) = kqk m c (rb R) (rs R) ⟨j.val, by omega⟩ := by
  have hp : pt11Of (ix2 R j) = R.val / 1024 := by
    show 1 * (R.val / 1024 - 0) + 1 * (j.val / 512 - 0) = R.val / 1024
    omega
  have hN : cfg0.N = 16 := N_0
  have hlt : R.val / 1024 < cfg0.N := by omega
  have hl : loc11Of (ix2 R j) = ix2 ⟨R.val % 1024, by omega⟩ j := by
    funext a; apply Fin.ext
    match a with
    | ⟨0, _⟩ => rfl
    | ⟨1, _⟩ => show j.val % 512 = j.val; omega
  unfold G11
  rw [dif_pos (by rw [hp]; exact hlt), hl, fold0_congr m c _ _ (R.val / 1024) (by omega) hp, ← outsAt0_sweep m c _ hlt]
  refine (q_pt m c ⟨R.val / 1024, hlt⟩ _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem k_pt (t : Fin cfg0.N) (r : Fin 1024) (j : Fin 512) : (outsAt0 m c t.val t.isLt).2.1 (ix2 r j) = kqk m c (bOf t) (sOf t r) ⟨512 + j.val, by omega⟩ * kscale := by
  by_cases h0 : t.val % 2 = 0
  · rw [outsAt0_A m c t h0 (by omega)]
    dsimp only
    rw [out0_A_12_eq]
    exact k_row m c t _ (carq_A m c t h0) r j
  · rw [outsAt0_B m c t h0 (by omega)]
    dsimp only
    rw [out0_B_12_eq]
    let t' : Fin cfg0.N := ⟨t.val - 1, Nat.lt_of_le_of_lt (Nat.sub_le _ _) t.isLt⟩
    exact k_row m c t _ (carq_B m c t t' h0 rfl) r j

theorem k_res (R : Fin 16384) (j : Fin 512) : G12 m c (ix2 R j) = kqk m c (rb R) (rs R) ⟨512 + j.val, by omega⟩ * kscale := by
  have hp : pt12Of (ix2 R j) = R.val / 1024 := by
    show 1 * (R.val / 1024 - 0) + 1 * (j.val / 512 - 0) = R.val / 1024
    omega
  have hN : cfg0.N = 16 := N_0
  have hlt : R.val / 1024 < cfg0.N := by omega
  have hl : loc12Of (ix2 R j) = ix2 ⟨R.val % 1024, by omega⟩ j := by
    funext a; apply Fin.ext
    match a with
    | ⟨0, _⟩ => rfl
    | ⟨1, _⟩ => show j.val % 512 = j.val; omega
  unfold G12
  rw [dif_pos (by rw [hp]; exact hlt), hl, fold0_congr m c _ _ (R.val / 1024) (by omega) hp, ← outsAt0_sweep m c _ hlt]
  refine (k_pt m c ⟨R.val / 1024, hlt⟩ _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem v_pt (t : Fin cfg0.N) (r : Fin 1024) (j : Fin 512) : (outsAt0 m c t.val t.isLt).2.2.1 (ix2 r j) = kj m c (bOf t) (sOf t r) ⟨1024 + j.val, by omega⟩ := by
  by_cases h0 : t.val % 2 = 0
  · rw [outsAt0_A m c t h0 (by omega)]
    dsimp only
    rw [out0_A_13_eq]
    exact v_row m c t r j
  · rw [outsAt0_B m c t h0 (by omega)]
    dsimp only
    rw [out0_B_13_eq]
    exact v_row m c t r j

theorem v_res (R : Fin 16384) (j : Fin 512) : G13 m c (ix2 R j) = kj m c (rb R) (rs R) ⟨1024 + j.val, by omega⟩ := by
  have hp : pt13Of (ix2 R j) = R.val / 1024 := by
    show 1 * (R.val / 1024 - 0) + 1 * (j.val / 512 - 0) = R.val / 1024
    omega
  have hN : cfg0.N = 16 := N_0
  have hlt : R.val / 1024 < cfg0.N := by omega
  have hl : loc13Of (ix2 R j) = ix2 ⟨R.val % 1024, by omega⟩ j := by
    funext a; apply Fin.ext
    match a with
    | ⟨0, _⟩ => rfl
    | ⟨1, _⟩ => show j.val % 512 = j.val; omega
  unfold G13
  rw [dif_pos (by rw [hp]; exact hlt), hl, fold0_congr m c _ _ (R.val / 1024) (by omega) hp, ← outsAt0_sweep m c _ hlt]
  refine (v_pt m c ⟨R.val / 1024, hlt⟩ _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem o_pt (t : Fin cfg0.N) (r : Fin 1024) (j : Fin 512) : (outsAt0 m c t.val t.isLt).2.2.2.1 (ix2 r j) = kj m c (bOf t) (sOf t r) ⟨1536 + j.val, by omega⟩ := by
  by_cases h0 : t.val % 2 = 0
  · rw [outsAt0_A m c t h0 (by omega)]
    dsimp only
    rw [out0_A_14_eq]
    exact o_row m c t r j
  · rw [outsAt0_B m c t h0 (by omega)]
    dsimp only
    rw [out0_B_14_eq]
    exact o_row m c t r j

theorem o_res (R : Fin 16384) (j : Fin 512) : G14 m c (ix2 R j) = kj m c (rb R) (rs R) ⟨1536 + j.val, by omega⟩ := by
  have hp : pt14Of (ix2 R j) = R.val / 1024 := by
    show 1 * (R.val / 1024 - 0) + 1 * (j.val / 512 - 0) = R.val / 1024
    omega
  have hN : cfg0.N = 16 := N_0
  have hlt : R.val / 1024 < cfg0.N := by omega
  have hl : loc14Of (ix2 R j) = ix2 ⟨R.val % 1024, by omega⟩ j := by
    funext a; apply Fin.ext
    match a with
    | ⟨0, _⟩ => rfl
    | ⟨1, _⟩ => show j.val % 512 = j.val; omega
  unfold G14
  rw [dif_pos (by rw [hp]; exact hlt), hl, fold0_congr m c _ _ (R.val / 1024) (by omega) hp, ← outsAt0_sweep m c _ hlt]
  refine (o_pt m c ⟨R.val / 1024, hlt⟩ _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem g_pt (t : Fin cfg0.N) (r : Fin 1024) (j : Fin 128) : (outsAt0 m c t.val t.isLt).2.2.2.2.1 (ix2 r j) = gat m c (bOf t) (sOf t r) j := by
  by_cases h0 : t.val % 2 = 0
  · rw [outsAt0_A m c t h0 (by omega)]
    dsimp only
    rw [out0_A_15_eq]
    exact g_row m c t r j
  · rw [outsAt0_B m c t h0 (by omega)]
    dsimp only
    rw [out0_B_15_eq]
    exact g_row m c t r j

theorem g_res (R : Fin 16384) (j : Fin 128) : G15 m c (ix2 R j) = gat m c (rb R) (rs R) j := by
  have hp : pt15Of (ix2 R j) = R.val / 1024 := by
    show 1 * (R.val / 1024 - 0) + 1 * (j.val / 128 - 0) = R.val / 1024
    omega
  have hN : cfg0.N = 16 := N_0
  have hlt : R.val / 1024 < cfg0.N := by omega
  have hl : loc15Of (ix2 R j) = ix2 ⟨R.val % 1024, by omega⟩ j := by
    funext a; apply Fin.ext
    match a with
    | ⟨0, _⟩ => rfl
    | ⟨1, _⟩ => show j.val % 128 = j.val; omega
  unfold G15
  rw [dif_pos (by rw [hp]; exact hlt), hl, fold0_congr m c _ _ (R.val / 1024) (by omega) hp, ← outsAt0_sweep m c _ hlt]
  refine (g_pt m c ⟨R.val / 1024, hlt⟩ _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem qs_pt (t : Fin cfg0.N) (h : Fin 4) (r : Fin 1024) (j : Fin 64) : (outsAt0 m c t.val t.isLt).2.2.2.2.2.1 (ix3 h r j) = Ideal.div (kj m c (bOf t) (sOf t r) ⟨2056 + (h.val * 64 + j.val), by omega⟩ * Ideal.ofBits FTy.f32 0x3E000000#32) (Ideal.log (Ideal.ofBits FTy.f32 0x40000000#32)) := by
  by_cases h0 : t.val % 2 = 0
  · rw [outsAt0_A m c t h0 (by omega)]
    dsimp only
    rw [out0_A_16_eq]
    exact qs_row m c t h r j
  · rw [outsAt0_B m c t h0 (by omega)]
    dsimp only
    rw [out0_B_16_eq]
    exact qs_row m c t h r j

theorem qs_res (h : Fin 4) (R : Fin 16384) (j : Fin 64) : G16 m c (ix3 h R j) = Ideal.div (kj m c (rb R) (rs R) ⟨2056 + (h.val * 64 + j.val), by omega⟩ * Ideal.ofBits FTy.f32 0x3E000000#32) (Ideal.log (Ideal.ofBits FTy.f32 0x40000000#32)) := by
  have hp : pt16Of (ix3 h R j) = R.val / 1024 := by
    show 16 * (h.val / 4 - 0) + 1 * (R.val / 1024 - 0) + 1 * (j.val / 64 - 0) = R.val / 1024
    omega
  have hN : cfg0.N = 16 := N_0
  have hlt : R.val / 1024 < cfg0.N := by omega
  have hl : loc16Of (ix3 h R j) = ix3 h ⟨R.val % 1024, by omega⟩ j := by
    funext a; apply Fin.ext
    match a with
    | ⟨0, _⟩ => show h.val % 4 = h.val; omega
    | ⟨1, _⟩ => rfl
    | ⟨2, _⟩ => show j.val % 64 = j.val; omega
  unfold G16
  rw [dif_pos (by rw [hp]; exact hlt), hl, fold0_congr m c _ _ (R.val / 1024) (by omega) hp, ← outsAt0_sweep m c _ hlt]
  refine (qs_pt m c ⟨R.val / 1024, hlt⟩ h _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem ks_pt (t : Fin cfg0.N) (h : Fin 4) (r : Fin 1024) (j : Fin 64) : (outsAt0 m c t.val t.isLt).2.2.2.2.2.2.1 (ix3 h r j) = kj m c (bOf t) (sOf t r) ⟨2312 + (h.val * 64 + j.val), by omega⟩ := by
  by_cases h0 : t.val % 2 = 0
  · rw [outsAt0_A m c t h0 (by omega)]
    dsimp only
    rw [out0_A_17_eq]
    exact ks_row m c t h r j
  · rw [outsAt0_B m c t h0 (by omega)]
    dsimp only
    rw [out0_B_17_eq]
    exact ks_row m c t h r j

theorem ks_res (h : Fin 4) (R : Fin 16384) (j : Fin 64) : G17 m c (ix3 h R j) = kj m c (rb R) (rs R) ⟨2312 + (h.val * 64 + j.val), by omega⟩ := by
  have hp : pt17Of (ix3 h R j) = R.val / 1024 := by
    show 16 * (h.val / 4 - 0) + 1 * (R.val / 1024 - 0) + 1 * (j.val / 64 - 0) = R.val / 1024
    omega
  have hN : cfg0.N = 16 := N_0
  have hlt : R.val / 1024 < cfg0.N := by omega
  have hl : loc17Of (ix3 h R j) = ix3 h ⟨R.val % 1024, by omega⟩ j := by
    funext a; apply Fin.ext
    match a with
    | ⟨0, _⟩ => show h.val % 4 = h.val; omega
    | ⟨1, _⟩ => rfl
    | ⟨2, _⟩ => show j.val % 64 = j.val; omega
  unfold G17
  rw [dif_pos (by rw [hp]; exact hlt), hl, fold0_congr m c _ _ (R.val / 1024) (by omega) hp, ← outsAt0_sweep m c _ hlt]
  refine (ks_pt m c ⟨R.val / 1024, hlt⟩ h _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem vs_pt (t : Fin cfg0.N) (h : Fin 4) (r : Fin 1024) (j : Fin 64) : (outsAt0 m c t.val t.isLt).2.2.2.2.2.2.2.1 (ix3 h r j) = kj m c (bOf t) (sOf t r) ⟨2568 + (h.val * 64 + j.val), by omega⟩ := by
  by_cases h0 : t.val % 2 = 0
  · rw [outsAt0_A m c t h0 (by omega)]
    dsimp only
    rw [out0_A_18_eq]
    exact vs_row m c t h r j
  · rw [outsAt0_B m c t h0 (by omega)]
    dsimp only
    rw [out0_B_18_eq]
    exact vs_row m c t h r j

theorem vs_res (h : Fin 4) (R : Fin 16384) (j : Fin 64) : G18 m c (ix3 h R j) = kj m c (rb R) (rs R) ⟨2568 + (h.val * 64 + j.val), by omega⟩ := by
  have hp : pt18Of (ix3 h R j) = R.val / 1024 := by
    show 16 * (h.val / 4 - 0) + 1 * (R.val / 1024 - 0) + 1 * (j.val / 64 - 0) = R.val / 1024
    omega
  have hN : cfg0.N = 16 := N_0
  have hlt : R.val / 1024 < cfg0.N := by omega
  have hl : loc18Of (ix3 h R j) = ix3 h ⟨R.val % 1024, by omega⟩ j := by
    funext a; apply Fin.ext
    match a with
    | ⟨0, _⟩ => show h.val % 4 = h.val; omega
    | ⟨1, _⟩ => rfl
    | ⟨2, _⟩ => show j.val % 64 = j.val; omega
  unfold G18
  rw [dif_pos (by rw [hp]; exact hlt), hl, fold0_congr m c _ _ (R.val / 1024) (by omega) hp, ← outsAt0_sweep m c _ hlt]
  refine (vs_pt m c ⟨R.val / 1024, hlt⟩ h _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

theorem y_pt (t : Fin cfg0.N) (r : Fin 1024) (j : Fin 256) : (outsAt0 m c t.val t.isLt).2.2.2.2.2.2.2.2.1 (ix2 r j) = ypr m c (bOf t) (sOf t r) j := by
  by_cases h0 : t.val % 2 = 0
  · rw [outsAt0_A m c t h0 (by omega)]
    dsimp only
    rw [out0_A_19_eq]
    exact y_row m c t _ (caru_A m c t h0) r j
  · rw [outsAt0_B m c t h0 (by omega)]
    dsimp only
    rw [out0_B_19_eq]
    let t' : Fin cfg0.N := ⟨t.val - 1, Nat.lt_of_le_of_lt (Nat.sub_le _ _) t.isLt⟩
    exact y_row m c t _ (caru_B m c t t' h0 rfl) r j

theorem y_res (R : Fin 16384) (j : Fin 256) : G19 m c (ix2 R j) = ypr m c (rb R) (rs R) j := by
  have hp : pt19Of (ix2 R j) = R.val / 1024 := by
    show 1 * (R.val / 1024 - 0) + 1 * (j.val / 256 - 0) = R.val / 1024
    omega
  have hN : cfg0.N = 16 := N_0
  have hlt : R.val / 1024 < cfg0.N := by omega
  have hl : loc19Of (ix2 R j) = ix2 ⟨R.val % 1024, by omega⟩ j := by
    funext a; apply Fin.ext
    match a with
    | ⟨0, _⟩ => rfl
    | ⟨1, _⟩ => show j.val % 256 = j.val; omega
  unfold G19
  rw [dif_pos (by rw [hp]; exact hlt), hl, fold0_congr m c _ _ (R.val / 1024) (by omega) hp, ← outsAt0_sweep m c _ hlt]
  refine (y_pt m c ⟨R.val / 1024, hlt⟩ _ j).trans ?_
  have e1 : bOf ⟨R.val / 1024, hlt⟩ = rb R := Fin.ext (by show R.val / 1024 / 2 = R.val / 2048; omega)
  have e2 : sOf ⟨R.val / 1024, hlt⟩ ⟨R.val % 1024, by omega⟩ = rs R := Fin.ext (by show R.val / 1024 % 2 * 1024 + R.val % 1024 = R.val % 2048; omega)
  rw [e1, e2]

end Cert.Kernel2Ideal.In
-- ==== Proof.Whole.lean ====
module

public import proofs.«01_k».proof.Proof.Point2

@[expose] public section
set_option backward.proofsInPublic true
set_option maxRecDepth 16384
noncomputable section
namespace Cert.Kernel2Ideal.In
open Cert.Kernel2Ideal Cert.Kernel2Ideal.Gen Cert.Kernel2Ideal.Value Idealize.ShloMosaic Idealize.ShloMosaic.TcCoe Idealize.SL.Sem Cert.Model
open Cert.Reference2Ideal.Read
open Cert.Reference2Ideal.In (v218_at v220_at v222_at v224_at v225_at v228_at v231_at v234_at v236_at)

variable (m : (ℓ : Loc nD τ sig) → Buf (Elt Ideal) ℓ) (c : Dev nD)

/-- An array of rank two or three at an index given by its coordinates. -/
theorem two {n1 n2 : ℕ} (i : (⟨2, ![n1, n2]⟩ : Shape).Idx) : ∃ (R : Fin n1) (j : Fin n2), i = ix2 R j :=
  ⟨i 0, i 1, by funext a; match a with | ⟨0, _⟩ => rfl | ⟨1, _⟩ => rfl⟩
theorem three {n1 n2 n3 : ℕ} (i : (⟨3, ![n1, n2, n3]⟩ : Shape).Idx) : ∃ (h : Fin n1) (R : Fin n2) (j : Fin n3), i = ix3 h R j :=
  ⟨i 0, i 1, i 2, by funext a; match a with | ⟨0, _⟩ => rfl | ⟨1, _⟩ => rfl | ⟨2, _⟩ => rfl⟩

theorem q_whole : val_main_v218 (F := Ideal) (g0 m c) (g1 m c) (g2 m c) (g3 m c) (g4 m c) = G11 m c := by
  funext i
  obtain ⟨R, j, rfl⟩ := two i
  exact (v218_at _ _ _ _ _ R j).trans (q_res m c R j).symm

theorem k_whole : val_main_v220 (F := Ideal) (g0 m c) (g1 m c) (g2 m c) (g3 m c) (g4 m c) = G12 m c := by
  funext i
  obtain ⟨R, j, rfl⟩ := two i
  exact (v220_at _ _ _ _ _ R j).trans (k_res m c R j).symm

theorem v_whole : val_main_v222 (F := Ideal) (g0 m c) (g1 m c) (g2 m c) = G13 m c := by
  funext i
  obtain ⟨R, j, rfl⟩ := two i
  exact (v222_at _ _ _ R j).trans (v_res m c R j).symm

theorem o_whole : val_main_v224 (F := Ideal) (g0 m c) (g1 m c) (g2 m c) = G14 m c := by
  funext i
  obtain ⟨R, j, rfl⟩ := two i
  exact (v224_at _ _ _ R j).trans (o_res m c R j).symm

theorem g_whole : val_main_v225 (F := Ideal) (g0 m c) (g1 m c) (g2 m c) (g5 m c) (g6 m c) = G15 m c := by
  funext i
  obtain ⟨R, j, rfl⟩ := two i
  exact (v225_at _ _ _ _ _ R j).trans (g_res m c R j).symm

theorem qs_whole : val_main_v228 (F := Ideal) (g0 m c) (g1 m c) (g2 m c) = G16 m c := by
  funext i
  obtain ⟨h, R, j, rfl⟩ := three i
  exact (v228_at _ _ _ h R j).trans (qs_res m c h R j).symm

theorem ks_whole : val_main_v231 (F := Ideal) (g0 m c) (g1 m c) (g2 m c) = G17 m c := by
  funext i
  obtain ⟨h, R, j, rfl⟩ := three i
  exact (v231_at _ _ _ h R j).trans (ks_res m c h R j).symm

theorem vs_whole : val_main_v234 (F := Ideal) (g0 m c) (g1 m c) (g2 m c) = G18 m c := by
  funext i
  obtain ⟨h, R, j, rfl⟩ := three i
  exact (v234_at _ _ _ h R j).trans (vs_res m c h R j).symm

theorem y_whole : val_main_v236 (F := Ideal) (g0 m c) (g1 m c) (g2 m c) (g7 m c) (g8 m c) (g9 m c) = G19 m c := by
  funext i
  obtain ⟨R, j, rfl⟩ := two i
  exact (v236_at _ _ _ _ _ _ R j).trans (y_res m c R j).symm

end Cert.Kernel2Ideal.In
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Point
public import proofs.«01_k».proof.Proof.Whole
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The output projection's value claim. -/
theorem out_value : Cert.algebraic_KernelIdeal_ReferenceIdeal (hKernelIdeal := Cert.KernelIdeal.Gen.facts) (hReferenceIdeal := Cert.ReferenceIdeal.Gen.facts) := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩) (Cert.ReferenceIdeal.Value.run (F := Ideal) m' ρ')
  refine (Cert.ReferenceIdeal.Read.val_main_v116_eq (F := Ideal) _).trans ?_
  obtain ⟨h0, h1, h2, h3, h4, h5, h6, h7, h8, h9, h10, h11, h12⟩ := hagree c
  refine Eq.trans (b := Cert.ReferenceIdeal.Read.val_main_v116 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))) rfl ?_
  rw [h0, h1, h2, h3, h4, h5, h6, h7, h8, h9, h10, h11, h12]
  funext i
  obtain ⟨R, d, rfl⟩ : ∃ (R : Fin 16384) (d : Fin 1024), i = ix2 R d := ⟨i 0, i 1, by funext a; match a with | ⟨0, _⟩ => rfl | ⟨1, _⟩ => rfl⟩
  exact (Cert.ReferenceIdeal.Out.v116_at _ _ _ _ _ _ _ _ _ _ _ _ _ R d).trans (Cert.KernelIdeal.Out.result_at m c R d).symm

/-- The input projection's value claim. -/
theorem in_value : Cert.algebraic_Kernel2Ideal_Reference2Ideal (hKernel2Ideal := Cert.Kernel2Ideal.Gen.facts) (hReference2Ideal := Cert.Reference2Ideal.Gen.facts) := by
  intro m ρ m' ρ' _ hagree
  refine ⟨_, _, _, _, _, _, _, _, _, Cert.Kernel2Ideal.Value.run (F := Ideal) m ρ, ?_⟩
  refine (θ_run Cert.Reference2Ideal.defs _ _).mono (fun _ h c => ?_) (Cert.Reference2Ideal.Value.run (F := Ideal) m' ρ')
  obtain ⟨h0, h1, h2, h3, h4, h5, h6, h7, h8, h9⟩ := hagree c
  obtain ⟨r0, r1, r2, r3, r4, r5, r6, r7, r8, rest⟩ := h c
  refine ⟨r0.trans ?_, r1.trans ?_, r2.trans ?_, r3.trans ?_, r4.trans ?_, r5.trans ?_, r6.trans ?_, r7.trans ?_, r8.trans ?_, rest⟩
  · refine (Cert.Reference2Ideal.Read.val_main_v218_eq (F := Ideal) _).trans ?_
    refine Eq.trans (b := Cert.Reference2Ideal.Read.val_main_v218 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))) rfl ?_
    rw [h0, h1, h2, h3, h4]
    exact Cert.Kernel2Ideal.In.q_whole m c
  · refine (Cert.Reference2Ideal.Read.val_main_v220_eq (F := Ideal) _).trans ?_
    refine Eq.trans (b := Cert.Reference2Ideal.Read.val_main_v220 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4))) rfl ?_
    rw [h0, h1, h2, h3, h4]
    exact Cert.Kernel2Ideal.In.k_whole m c
  · refine (Cert.Reference2Ideal.Read.val_main_v222_eq (F := Ideal) _).trans ?_
    refine Eq.trans (b := Cert.Reference2Ideal.Read.val_main_v222 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) rfl ?_
    rw [h0, h1, h2]
    exact Cert.Kernel2Ideal.In.v_whole m c
  · refine (Cert.Reference2Ideal.Read.val_main_v224_eq (F := Ideal) _).trans ?_
    refine Eq.trans (b := Cert.Reference2Ideal.Read.val_main_v224 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) rfl ?_
    rw [h0, h1, h2]
    exact Cert.Kernel2Ideal.In.o_whole m c
  · refine (Cert.Reference2Ideal.Read.val_main_v225_eq (F := Ideal) _).trans ?_
    refine Eq.trans (b := Cert.Reference2Ideal.Read.val_main_v225 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6))) rfl ?_
    rw [h0, h1, h2, h5, h6]
    exact Cert.Kernel2Ideal.In.g_whole m c
  · refine (Cert.Reference2Ideal.Read.val_main_v228_eq (F := Ideal) _).trans ?_
    refine Eq.trans (b := Cert.Reference2Ideal.Read.val_main_v228 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) rfl ?_
    rw [h0, h1, h2]
    exact Cert.Kernel2Ideal.In.qs_whole m c
  · refine (Cert.Reference2Ideal.Read.val_main_v231_eq (F := Ideal) _).trans ?_
    refine Eq.trans (b := Cert.Reference2Ideal.Read.val_main_v231 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) rfl ?_
    rw [h0, h1, h2]
    exact Cert.Kernel2Ideal.In.ks_whole m c
  · refine (Cert.Reference2Ideal.Read.val_main_v234_eq (F := Ideal) _).trans ?_
    refine Eq.trans (b := Cert.Reference2Ideal.Read.val_main_v234 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2))) rfl ?_
    rw [h0, h1, h2]
    exact Cert.Kernel2Ideal.In.vs_whole m c
  · refine (Cert.Reference2Ideal.Read.val_main_v236_eq (F := Ideal) _).trans ?_
    refine Eq.trans (b := Cert.Reference2Ideal.Read.val_main_v236 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9))) rfl ?_
    rw [h0, h1, h2, h7, h8, h9]
    exact Cert.Kernel2Ideal.In.y_whole m c

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts,
  fun m ρ _ => Cert.Kernel.Gen.frame m ρ, fun m ρ _ => Cert.KernelIdeal.Gen.frame m ρ,
  fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ),
  fun m ρ _ => Cert.Kernel2.Gen.frame m ρ, fun m ρ _ => Cert.Kernel2Ideal.Gen.frame m ρ,
  fun m ρ _ => (θ_run Cert.Reference2Ideal.defs _ _).mono (fun r h => ⟨fun c => (h c).2.2.2.2.2.2.2.2.2, Idealize.ShloMosaic.sem_eq_zero_of_no_sems (by decide) r.2⟩)
    (Cert.Reference2Ideal.Value.run (F := Ideal) m ρ),
  fun m ρ _ => Cert.Kernel3.Gen.frame m ρ, fun m ρ _ => Cert.Kernel3Ideal.Gen.frame m ρ,
  Cert.Gelu.preserves, out_value,
  IdealRules.named_const.statement Cert.Kernel2Ideal.κ "sb_scale" .f32 0x3E38AA3B#32 _ rfl, in_value,
  IdealRules.named_const.statement Cert.Kernel3Ideal.κ "log2e" .f32 0x3FB8AA3B#32 _ rfl⟩

end Cert.Proof

end
